-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_3) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v2_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x4096 : Shape := ⟨3, ![16, 64, 4096]⟩
abbrev S8x2048x64 : Shape := ⟨3, ![8, 2048, 64]⟩
abbrev S_ : Shape := ⟨0, ![]⟩

class Facts : Prop where
  bcast_S_S16x64x4096 : S_.BroadcastsInDim S16x64x4096 (![] : Fin 0 → Fin S16x64x4096.rank)
  bcast_S_S8x2048x64 : S_.BroadcastsInDim S8x2048x64 (![] : Fin 0 → Fin S8x2048x64.rank)

variable [Facts]

def fn {F : FTy → Type} [FloatOps F] (main_arg0 : FVec F S16x64x4096 .f32) (main_arg1 : FVec F S8x2048x64 .f32) : IVec S16x64x4096 1 × IVec S8x2048x64 1 :=
  let main_cst : FVec F S_ .f32 := constant S_ .f32 0x7F800000#32
  let main_v0 : FVec F S16x64x4096 .f32 := broadcastInDim S16x64x4096 ![] bcast_S_S16x64x4096 main_cst
  let main_v1 : IVec S16x64x4096 1 := cmpf .olt main_arg0 main_v0
  let main_cst_0 : FVec F S_ .f32 := constant S_ .f32 0xFF800000#32
  let main_v2 : FVec F S16x64x4096 .f32 := broadcastInDim S16x64x4096 ![] bcast_S_S16x64x4096 main_cst_0
  let main_v3 : IVec S16x64x4096 1 := cmpf .ogt main_arg0 main_v2
  let main_v4 : IVec S16x64x4096 1 := andi main_v1 main_v3
  let main_cst_1 : FVec F S_ .f32 := constant S_ .f32 0x7F800000#32
  let main_v5 : FVec F S8x2048x64 .f32 := broadcastInDim S8x2048x64 ![] bcast_S_S8x2048x64 main_cst_1
  let main_v6 : IVec S8x2048x64 1 := cmpf .olt main_arg1 main_v5
  let main_cst_2 : FVec F S_ .f32 := constant S_ .f32 0xFF800000#32
  let main_v7 : FVec F S8x2048x64 .f32 := broadcastInDim S8x2048x64 ![] bcast_S_S8x2048x64 main_cst_2
  let main_v8 : IVec S8x2048x64 1 := cmpf .ogt main_arg1 main_v7
  let main_v9 : IVec S8x2048x64 1 := andi main_v6 main_v8
  (main_v4, main_v9)
-- ==== Kernel.lean ====
abbrev S16x64x4096 : Shape := ⟨3, ![16, 64, 4096]⟩
abbrev S8x2048x64 : Shape := ⟨3, ![8, 2048, 64]⟩
abbrev S_ : Shape := ⟨0, ![]⟩
abbrev S8x2048 : Shape := ⟨2, ![8, 2048]⟩
abbrev S16x8x4096 : Shape := ⟨3, ![16, 8, 4096]⟩
abbrev S1x1 : Shape := ⟨2, ![1, 1]⟩
abbrev S1x64x512 : Shape := ⟨3, ![1, 64, 512]⟩
abbrev S1x8x512 : Shape := ⟨3, ![1, 8, 512]⟩
abbrev S1x64x128 : Shape := ⟨3, ![1, 64, 128]⟩
abbrev S64x128 : Shape := ⟨2, ![64, 128]⟩
abbrev S128x64 : Shape := ⟨2, ![128, 64]⟩
abbrev S128 : Shape := ⟨1, ![128]⟩
abbrev S128x1 : Shape := ⟨2, ![128, 1]⟩
abbrev S128x2048 : Shape := ⟨2, ![128, 2048]⟩
abbrev S1x2048x64 : Shape := ⟨3, ![1, 2048, 64]⟩
abbrev S2048x64 : Shape := ⟨2, ![2048, 64]⟩
abbrev S1x2048 : Shape := ⟨2, ![1, 2048]⟩
abbrev S2048 : Shape := ⟨1, ![2048]⟩
abbrev S1x1x128 : Shape := ⟨3, ![1, 1, 128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 16
  | .vmem => 12
  | .smem => 0
  | _ => 0

abbrev bufTy : (tb : Table) → Fin (tcTables nBuf tb) → BufTy
  | .hbm, ⟨0, _⟩ => ⟨S16x64x4096, .f32⟩
  | .hbm, ⟨1, _⟩ => ⟨S8x2048x64, .f32⟩
  | .hbm, ⟨2, _⟩ => ⟨S8x2048x64, .bf16⟩
  | .hbm, ⟨3, _⟩ => ⟨S8x2048x64, .f32⟩
  | .hbm, ⟨4, _⟩ => ⟨S8x2048x64, .f32⟩
  | .hbm, ⟨5, _⟩ => ⟨S8x2048x64, .bf16⟩
  | .hbm, ⟨6, _⟩ => ⟨S8x2048x64, .f32⟩
  | .hbm, ⟨7, _⟩ => ⟨S8x2048x64, .f32⟩
  | .hbm, ⟨8, _⟩ => ⟨S8x2048x64, .bf16⟩
  | .hbm, ⟨9, _⟩ => ⟨S8x2048x64, .f32⟩
  | .hbm, ⟨10, _⟩ => ⟨S_, .f32⟩
  | .hbm, ⟨11, _⟩ => ⟨S8x2048, .f32⟩
  | .hbm, ⟨12, _⟩ => ⟨S16x64x4096, .f32⟩
  | .hbm, ⟨13, _⟩ => ⟨S16x8x4096, .i32⟩
  | .hbm, ⟨14, _⟩ => ⟨S1x1, .f32⟩
  | .hbm, ⟨15, _⟩ => ⟨S_, .f32⟩
  | .local _ .vmem, ⟨0, _⟩ => ⟨S1x64x512, .f32⟩
  | .local _ .vmem, ⟨1, _⟩ => ⟨S1x64x512, .f32⟩
  | .local _ .vmem, ⟨2, _⟩ => ⟨S8x2048x64, .f32⟩
  | .local _ .vmem, ⟨3, _⟩ => ⟨S8x2048x64, .bf16⟩
  | .local _ .vmem, ⟨4, _⟩ => ⟨S8x2048x64, .bf16⟩
  | .local _ .vmem, ⟨5, _⟩ => ⟨S8x2048x64, .bf16⟩
  | .local _ .vmem, ⟨6, _⟩ => ⟨S8x2048, .f32⟩
  | .local _ .vmem, ⟨7, _⟩ => ⟨S1x64x512, .f32⟩
  | .local _ .vmem, ⟨8, _⟩ => ⟨S1x64x512, .f32⟩
  | .local _ .vmem, ⟨9, _⟩ => ⟨S1x8x512, .i32⟩
  | .local _ .vmem, ⟨10, _⟩ => ⟨S1x8x512, .i32⟩
  | .local _ .vmem, ⟨11, _⟩ => ⟨S1x1, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x2048x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S16x64x4096 : Shape := ⟨3, ![16, 64, 4096]⟩
abbrev S8x2048x64 : Shape := ⟨3, ![8, 2048, 64]⟩
abbrev S_ : Shape := ⟨0, ![]⟩
abbrev S8x16x4096 : Shape := ⟨3, ![8, 16, 4096]⟩
abbrev S1x2048x64 : Shape := ⟨3, ![1, 2048, 64]⟩
abbrev S2048x64 : Shape := ⟨2, ![2048, 64]⟩
abbrev S16x4096x64 : Shape := ⟨3, ![16, 4096, 64]⟩
abbrev S65536x64 : Shape := ⟨2, ![65536, 64]⟩
abbrev S65536 : Shape := ⟨1, ![65536]⟩
abbrev S65536x1 : Shape := ⟨2, ![65536, 1]⟩
abbrev S2048 : Shape := ⟨1, ![2048]⟩
abbrev S1x2048 : Shape := ⟨2, ![1, 2048]⟩
abbrev S64x2048 : Shape := ⟨2, ![64, 2048]⟩
abbrev S65536x2048 : Shape := ⟨2, ![65536, 2048]⟩
abbrev S1 : Shape := ⟨1, ![1]⟩
abbrev S1x1 : Shape := ⟨2, ![1, 1]⟩
abbrev S16x4096 : Shape := ⟨2, ![16, 4096]⟩
abbrev S1x16x4096 : Shape := ⟨3, ![1, 16, 4096]⟩
abbrev S16x8x4096 : Shape := ⟨3, ![16, 8, 4096]⟩

abbrev nBuf : Space → Nat
  | .hbm => 87
  | .vmem => 0
  | .smem => 0
  | _ => 0

abbrev bufTy : (tb : Table) → Fin (tcTables nBuf tb) → BufTy
  | .hbm, ⟨0, _⟩ => ⟨S16x64x4096, .f32⟩
  | .hbm, ⟨1, _⟩ => ⟨S8x2048x64, .f32⟩
  | .hbm, ⟨2, _⟩ => ⟨S_, .f32⟩
  | .hbm, ⟨3, _⟩ => ⟨S16x64x4096, .f32⟩
  | .hbm, ⟨4, _⟩ => ⟨S_, .f32⟩
  | .hbm, ⟨5, _⟩ => ⟨S_, .i32⟩
  | .hbm, ⟨6, _⟩ => ⟨S8x16x4096, .i32⟩
  | .hbm, ⟨7, _⟩ => ⟨S_, .i32⟩
  | .hbm, ⟨8, _⟩ => ⟨S8x2048x64, .f32⟩
  | .hbm, ⟨9, _⟩ => ⟨S_, .i32⟩
  | .hbm, ⟨10, _⟩ => ⟨S16x64x4096, .f32⟩
  | .hbm, ⟨11, _⟩ => ⟨S16x64x4096, .f32⟩
  | .hbm, ⟨12, _⟩ => ⟨S_, .f32⟩
  | .hbm, ⟨13, _⟩ => ⟨S8x16x4096, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1x2048x64, .f32⟩
  | .hbm, ⟨19, _⟩ => ⟨S2048x64, .f32⟩
  | .hbm, ⟨20, _⟩ => ⟨S16x4096x64, .f32⟩
  | .hbm, ⟨21, _⟩ => ⟨S65536x64, .f32⟩
  | .hbm, ⟨22, _⟩ => ⟨S65536x64, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S2048x64, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S_, .f32⟩
  | .hbm, ⟨31, _⟩ => ⟨S65536x64, .f32⟩
  | .hbm, ⟨32, _⟩ => ⟨S65536x64, .f32⟩
  | .hbm, ⟨33, _⟩ => ⟨S64x2048, .f32⟩
  | .hbm, ⟨34, _⟩ => ⟨S65536x2048, .f32⟩
  | .hbm, ⟨35, _⟩ => ⟨S65536x2048, .f32⟩
  | .hbm, ⟨36, _⟩ => ⟨S65536x2048, .f32⟩
  | .hbm, ⟨37, _⟩ => ⟨S65536x2048, .f32⟩
  | .hbm, ⟨38, _⟩ => ⟨S65536x2048, .f32⟩
  | .hbm, ⟨39, _⟩ => ⟨S65536x2048, .i32⟩
  | .hbm, ⟨40, _⟩ => ⟨S_, .f32⟩
  | .hbm, ⟨41, _⟩ => ⟨S_, .i32⟩
  | .hbm, ⟨42, _⟩ => ⟨S65536, .f32⟩
  | .hbm, ⟨43, _⟩ => ⟨S65536, .i32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S65536, .i32⟩
  | .hbm, ⟨49, _⟩ => ⟨S65536, .i32⟩
  | .hbm, ⟨50, _⟩ => ⟨S65536, .i32⟩
  | .hbm, ⟨51, _⟩ => ⟨S65536x1, .i32⟩
  | .hbm, ⟨52, _⟩ => ⟨S1, .i32⟩
  | .hbm, ⟨53, _⟩ => ⟨S_, .i32⟩
  | .hbm, ⟨54, _⟩ => ⟨S65536x1, .i32⟩
  | .hbm, ⟨55, _⟩ => ⟨S65536x1, .i1⟩
  | .hbm, ⟨56, _⟩ => ⟨S1x1, .i32⟩
  | .hbm, ⟨57, _⟩ => ⟨S65536x1, .i32⟩
  | .hbm, ⟨58, _⟩ => ⟨S65536x1, .i1⟩
  | .hbm, ⟨59, _⟩ => ⟨S65536x1, .i1⟩
  | .hbm, ⟨60, _⟩ => ⟨S_, .i1⟩
  | .hbm, ⟨61, _⟩ => ⟨S65536, .i1⟩
  | .hbm, ⟨62, _⟩ => ⟨S65536x64, .f32⟩
  | .hbm, ⟨63, _⟩ => ⟨S65536x64, .i1⟩
  | .hbm, ⟨64, _⟩ => ⟨S_, .f32⟩
  | .hbm, ⟨65, _⟩ => ⟨S65536x64, .f32⟩
  | .hbm, ⟨66, _⟩ => ⟨S65536x64, .f32⟩
  | .hbm, ⟨67, _⟩ => ⟨S16x4096x64, .f32⟩
  | .hbm, ⟨68, _⟩ => ⟨S16x64x4096, .f32⟩
  | .hbm, ⟨69, _⟩ => ⟨S16x4096, .i32⟩
  | .hbm, ⟨70, _⟩ => ⟨S16x64x4096, .f32⟩
  | .hbm, ⟨71, _⟩ => ⟨S16x64x4096, .f32⟩
  | .hbm, ⟨72, _⟩ => ⟨S16x64x4096, .f32⟩
  | .hbm, ⟨73, _⟩ => ⟨S16x64x4096, .f32⟩
  | .hbm, ⟨74, _⟩ => ⟨S16x64x4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1x16x4096, .i32⟩
  | .hbm, ⟨81, _⟩ => ⟨S_, .i32⟩
  | .hbm, ⟨82, _⟩ => ⟨S_, .i32⟩
  | .hbm, ⟨83, _⟩ => ⟨S8x16x4096, .i32⟩
  | .hbm, ⟨84, _⟩ => ⟨S_, .i32⟩
  | .hbm, ⟨85, _⟩ => ⟨S_, .i32⟩
  | .hbm, ⟨86, _⟩ => ⟨S16x8x4096, .i32⟩
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_c : Ref sig .tc := ⟨.hbm, 5, rfl⟩
abbrev main_v1 : Ref sig .tc := ⟨.hbm, 6, rfl⟩
abbrev main_c_1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_while0c_c_7 : Ref sig .tc := ⟨.hbm, 14, rfl⟩
abbrev main_while0c_v4 : Ref sig .tc := ⟨.hbm, 15, rfl⟩
abbrev main_while0b_call0_c : Ref sig .tc := ⟨.hbm, 16, rfl⟩
abbrev main_while0b_call0_c_0 : Ref sig .tc := ⟨.hbm, 17, rfl⟩
abbrev main_while0b_call0_v0 : Ref sig .tc := ⟨.hbm, 18, rfl⟩
abbrev main_while0b_v4 : Ref sig .tc := ⟨.hbm, 19, rfl⟩
abbrev main_while0b_v5 : Ref sig .tc := ⟨.hbm, 20, rfl⟩
abbrev main_while0b_v6 : Ref sig .tc := ⟨.hbm, 21, rfl⟩
abbrev main_while0b_v7 : Ref sig .tc := ⟨.hbm, 22, rfl⟩
abbrev main_while0b_cst_7 : Ref sig .tc := ⟨.hbm, 23, rfl⟩
abbrev main_while0b_v8 : Ref sig .tc := ⟨.hbm, 24, rfl⟩
abbrev main_while0b_v9 : Ref sig .tc := ⟨.hbm, 25, rfl⟩
abbrev main_while0b_v10 : Ref sig .tc := ⟨.hbm, 26, rfl⟩
abbrev main_while0b_cst_8 : Ref sig .tc := ⟨.hbm, 27, rfl⟩
abbrev main_while0b_v11 : Ref sig .tc := ⟨.hbm, 28, rfl⟩
abbrev main_while0b_v12 : Ref sig .tc := ⟨.hbm, 29, rfl⟩
abbrev main_while0b_cst_9 : Ref sig .tc := ⟨.hbm, 30, rfl⟩
abbrev main_while0b_v13 : Ref sig .tc := ⟨.hbm, 31, rfl⟩
abbrev main_while0b_v14 : Ref sig .tc := ⟨.hbm, 32, rfl⟩
abbrev main_while0b_v15 : Ref sig .tc := ⟨.hbm, 33, rfl⟩
abbrev main_while0b_v16 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_call1_v0 : Ref sig .tc := ⟨.hbm, 39, rfl⟩
abbrev main_while0b_call1_cst : Ref sig .tc := ⟨.hbm, 40, rfl⟩
abbrev main_while0b_call1_c : Ref sig .tc := ⟨.hbm, 41, rfl⟩
abbrev main_while0b_call1_v1_0 : Ref sig .tc := ⟨.hbm, 42, rfl⟩
abbrev main_while0b_v21 : Ref sig .tc := ⟨.hbm, 43, rfl⟩
abbrev main_while0b_call2_c : Ref sig .tc := ⟨.hbm, 44, rfl⟩
abbrev main_while0b_call2_v0 : Ref sig .tc := ⟨.hbm, 45, rfl⟩
abbrev main_while0b_call2_v1 : Ref sig .tc := ⟨.hbm, 46, rfl⟩
abbrev main_while0b_call2_c_0 : Ref sig .tc := ⟨.hbm, 47, rfl⟩
abbrev main_while0b_call2_v2 : Ref sig .tc := ⟨.hbm, 48, rfl⟩
abbrev main_while0b_call2_v3 : Ref sig .tc := ⟨.hbm, 49, rfl⟩
abbrev main_while0b_call2_v4 : Ref sig .tc := ⟨.hbm, 50, rfl⟩
abbrev main_while0b_call2_v5 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v6 : Ref sig .tc := ⟨.hbm, 54, rfl⟩
abbrev main_while0b_call2_v7 : Ref sig .tc := ⟨.hbm, 55, rfl⟩
abbrev main_while0b_call2_v8 : Ref sig .tc := ⟨.hbm, 56, rfl⟩
abbrev main_while0b_call2_v9 : Ref sig .tc := ⟨.hbm, 57, rfl⟩
abbrev main_while0b_call2_v10 : Ref sig .tc := ⟨.hbm, 58, rfl⟩
abbrev main_while0b_call2_v11 : Ref sig .tc := ⟨.hbm, 59, rfl⟩
abbrev main_while0b_call2_c_3 : Ref sig .tc := ⟨.hbm, 60, rfl⟩
abbrev main_while0b_call2_v12 : Ref sig .tc := ⟨.hbm, 61, rfl⟩
abbrev main_while0b_call2_v13 : Ref sig .tc := ⟨.hbm, 62, rfl⟩
abbrev main_while0b_call2_v14 : Ref sig .tc := ⟨.hbm, 63, rfl⟩
abbrev main_while0b_call2_cst : Ref sig .tc := ⟨.hbm, 64, rfl⟩
abbrev main_while0b_call2_v15 : Ref sig .tc := ⟨.hbm, 65, rfl⟩
abbrev main_while0b_v22 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_v28 : Ref sig .tc := ⟨.hbm, 72, rfl⟩
abbrev main_while0b_v29 : Ref sig .tc := ⟨.hbm, 73, rfl⟩
abbrev main_while0b_v30 : Ref sig .tc := ⟨.hbm, 74, rfl⟩
abbrev main_while0b_cst_10 : Ref sig .tc := ⟨.hbm, 75, rfl⟩
abbrev main_while0b_v31 : Ref sig .tc := ⟨.hbm, 76, rfl⟩
abbrev main_while0b_cst_11 : Ref sig .tc := ⟨.hbm, 77, rfl⟩
abbrev main_while0b_v32 : Ref sig .tc := ⟨.hbm, 78, rfl⟩
abbrev main_while0b_v33 : Ref sig .tc := ⟨.hbm, 79, rfl⟩
abbrev main_while0b_call3_v0 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_v34 : Ref sig .tc := ⟨.hbm, 83, rfl⟩
abbrev main_while0b_c_12 : Ref sig .tc := ⟨.hbm, 84, rfl⟩
abbrev main_while0b_v35 : Ref sig .tc := ⟨.hbm, 85, rfl⟩
abbrev main_v3 : Ref sig .tc := ⟨.hbm, 86, rfl⟩

abbrev nD : Nat := 1
abbrev τ : Topo := Topo.v7x

variable {F : FTy → Type} [FloatOps F]

abbrev main_while0_count : Scf.Loop 32 := ⟨0#32, 8#32, 1#32⟩
-- ==== Proof.Tile.lean ====
/-
  The kernel's block computation, named: one sub-tile of 128 columns goes through eight codebooks; here are the
  operations of one step as functions of the residual and of the codebook rows, the residuals and the partial sums
  as recursions over the codebook number, and the rules that bring the body's own terms to these names.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-! ## One step -/

/-- The sub-tile with its columns first. -/
def colsV (v : Vec F S1x64x128 .f32) : FVec F S128x64 .f32 :=
  transpose S128x64 [1, 0] (shapeCast S64x128 v shapeCasts_S1x64x128_S64x128) transposes_S64x128_p1_0_S128x64

/-- The squared length of each column. -/
def sqV (r : FVec F S128x64 .f32) : FVec F S128x1 .f32 :=
  shapeCast S128x1 (multiReduction .add [1] S128 (mulf r r) 0x00000000#32 reduces_S128x64_S128 (.inl rfl) rfl) shapeCasts_S128_S128x1

/-- The lane numbers, as floats. -/
def lanesV : FVec F S128x2048 .f32 := sitofp .f32 (iota .tc S128x2048 32 [1] iota_S128x2048_d1_w32)

/-- The squared distances of each column to the rows of a codebook, from the squared lengths `xs` and `cs`. -/
def distV (r : FVec F S128x64 .f32) (xs : FVec F S128x1 .f32) (cb : Vec F S1x2048x64 .f32) (cs : Vec F S1x2048 .f32) :
    FVec F S128x2048 .f32 :=
  addf (subf (broadcastTo S128x2048 xs broadcasts_S128x1_S128x2048) (mulf (broadcast S128x2048 (Scalar.ofBits .f32 0x40000000#32)) (matmul dot_S128x64_S2048x64_S128x2048_1_1_0_0_n_n none r (shapeCast S2048x64 cb shapeCasts_S1x2048x64_S2048x64) (constant S128x2048 .f32 0x00000000#32)))) (broadcastTo S128x2048 (shapeCast S1x2048 (shapeCast S2048 cs shapeCasts_S1x2048_S2048) shapeCasts_S2048_S1x2048) broadcasts_S1x2048_S128x2048)

/-- The lane number where the distance is the least one of its row, `4096` elsewhere. -/
def keysV (d : FVec F S128x2048 .f32) : FVec F S128x2048 .f32 :=
  select (cmpf .oeq d (broadcastTo S128x2048 (shapeCast S128x1 (multiReduction .minimumf [1] S128 d 0x7F800000#32 reduces_S128x2048_S128 (.inl rfl) rfl) shapeCasts_S128_S128x1) broadcasts_S128x1_S128x2048)) lanesV (broadcast S128x2048 (Scalar.ofBits .f32 0x45800000#32))

/-- The least key of each row. -/
def firstV (k : FVec F S128x2048 .f32) : FVec F S128x1 .f32 :=
  shapeCast S128x1 (multiReduction .minimumf [1] S128 k 0x7F800000#32 reduces_S128x2048_S128 (.inl rfl) rfl) shapeCasts_S128_S128x1

/-- The row of codes stored. -/
def codeV (i : FVec F S128x1 .f32) : IVec S1x1x128 32 :=
  shapeCast S1x1x128 (fptosi 32 (shapeCast S128 i shapeCasts_S128x1_S128)) shapeCasts_S128_S1x1x128

/-- The selection matrix. -/
def pickV (k : FVec F S128x2048 .f32) (i : FVec F S128x1 .f32) : FVec F S128x2048 .bf16 :=
  truncf .bf16 (sitofp .f32 (extui 32 (cmpf .oeq k (broadcastTo S128x2048 i broadcasts_S128x1_S128x2048)) natLt_1_32)) bitsLt_bf16_f32

/-- The selection matrix times one of the three pieces of a codebook. -/
def prodV (o : FVec F S128x2048 .bf16) (h : Vec F S1x2048x64 .bf16) : FVec F S128x64 .f32 :=
  matmul dot_S128x2048_S2048x64_S128x64_1_0_0_1_n_n none o (shapeCast S2048x64 h shapeCasts_S1x2048x64_S2048x64) (constant S128x64 .f32 0x00000000#32)

/-- The keys of one step. -/
def stepKeys (r : FVec F S128x64 .f32) (cb : Vec F S1x2048x64 .f32) (cs : Vec F S1x2048 .f32) : FVec F S128x2048 .f32 :=
  keysV (distV r (sqV r) cb cs)

/-- The rows one step selects, from the three pieces of the codebook. -/
def stepQ (r : FVec F S128x64 .f32) (cb : Vec F S1x2048x64 .f32) (h m l : Vec F S1x2048x64 .bf16) (cs : Vec F S1x2048 .f32) :
    FVec F S128x64 .f32 :=
  addf (addf (prodV (pickV (stepKeys r cb cs) (firstV (stepKeys r cb cs))) h) (prodV (pickV (stepKeys r cb cs) (firstV (stepKeys r cb cs))) m)) (prodV (pickV (stepKeys r cb cs) (firstV (stepKeys r cb cs))) l)

/-- The sum of the squared lengths of a sub-tile. -/
def lossV (xs : FVec F S128x1 .f32) : F .f32 :=
  extractAt ![0, 0, 0] (shapeCast S1x1x1 (multiReduction .add [1, 2] S1 (shapeCast S1x128x1 xs shapeCasts_S128x1_S1x128x1) 0x00000000#32 reduces_S1x128x1_S1 (.inl rfl) rfl) shapeCasts_S1_S1x1x1) inpos_S1x1x1_p0_0_0

/-- The sub-tile stored: columns last again. -/
def backV (q : FVec F S128x64 .f32) : FVec F S1x64x128 .f32 :=
  shapeCast S1x64x128 (transpose S64x128 [1, 0] q transposes_S128x64_p1_0_S64x128) shapeCasts_S64x128_S1x64x128

/-! ## The parts of the blocks -/

/-- Sub-tile `s` of a block of 512 columns. -/
def sub (x : Vec F S1x64x512 .f32) (s : Fin 4) : Vec F S1x64x128 .f32 := fun j =>
  x (ix3 (n0 := 1) (n1 := 64) (n2 := 512) (j 0) (j 1) ⟨128 * s.val + (j 2).val, by have := s.isLt; have h : (j 2).val < 128 := (j 2).isLt; omega⟩)

/-- Codebook `i` of eight. -/
def bookV {φ : FTy} (x : FVec F S8x2048x64 φ) (i : ℕ) : FVec F S1x2048x64 φ := fun j =>
  x (ix3 (n0 := 8) (n1 := 2048) (n2 := 64) ⟨i % 8, Nat.mod_lt _ (by decide)⟩ (j 1) (j 2))

/-- The squared lengths of codebook `i`'s rows. -/
def lensV (x : Vec F S8x2048 .f32) (i : ℕ) : Vec F S1x2048 .f32 := fun j =>
  x (ix2 (n0 := 8) (n1 := 2048) ⟨i % 8, Nat.mod_lt _ (by decide)⟩ (j 1))

/-- The residual of a sub-tile before codebook `i`. -/
def resV (x : Vec F S1x64x128 .f32) (x1 : Vec F S8x2048x64 .f32) (x2 x3 x4 : Vec F S8x2048x64 .bf16) (x5 : Vec F S8x2048 .f32) :
    ℕ → FVec F S128x64 .f32
  | 0 => colsV x
  | i + 1 => subf (resV x x1 x2 x3 x4 x5 i) (stepQ (resV x x1 x2 x3 x4 x5 i) (bookV x1 i) (bookV x2 i) (bookV x3 i) (bookV x4 i) (lensV x5 i))

/-- The sum of the selected rows before codebook `i`. -/
def totV (x : Vec F S1x64x128 .f32) (x1 : Vec F S8x2048x64 .f32) (x2 x3 x4 : Vec F S8x2048x64 .bf16) (x5 : Vec F S8x2048 .f32) :
    ℕ → FVec F S128x64 .f32
  | 0 => broadcast S128x64 (Scalar.ofBits .f32 0x00000000#32)
  | i + 1 => addf (totV x x1 x2 x3 x4 x5 i) (stepQ (resV x x1 x2 x3 x4 x5 i) (bookV x1 i) (bookV x2 i) (bookV x3 i) (bookV x4 i) (lensV x5 i))

/-- The codes of a sub-tile at codebook `i`. -/
def codesV (x : Vec F S1x64x128 .f32) (x1 : Vec F S8x2048x64 .f32) (x2 x3 x4 : Vec F S8x2048x64 .bf16) (x5 : Vec F S8x2048 .f32)
    (i : ℕ) : IVec S1x1x128 32 :=
  codeV (firstV (stepKeys (resV x x1 x2 x3 x4 x5 i) (bookV x1 i) (lensV x5 i)))

/-- The loss of a block after codebook `i - 1`: sub-tile by sub-tile, codebook by codebook. -/
def sumV (x : Vec F S1x64x512 .f32) (x1 : Vec F S8x2048x64 .f32) (x2 x3 x4 : Vec F S8x2048x64 .bf16) (x5 : Vec F S8x2048 .f32) :
    ℕ → F .f32
  | 0 => Scalar.ofBits .f32 0x00000000#32
  | i + 1 => Scalar.addf (sumV x x1 x2 x3 x4 x5 i)
      (Scalar.addf (Scalar.addf (Scalar.addf (Scalar.addf (Scalar.ofBits .f32 0x00000000#32)
        (lossV (sqV (resV (sub x 0) x1 x2 x3 x4 x5 (i + 1)))))
        (lossV (sqV (resV (sub x 1) x1 x2 x3 x4 x5 (i + 1)))))
        (lossV (sqV (resV (sub x 2) x1 x2 x3 x4 x5 (i + 1)))))
        (lossV (sqV (resV (sub x 3) x1 x2 x3 x4 x5 (i + 1)))))

/-! ## The rules to these names -/

section Rules

theorem to_colsV (v : Vec F S1x64x128 .f32) : (transpose S128x64 ([1, 0] : List (Fin 2)) (shapeCast S64x128 v shapeCasts_S1x64x128_S64x128 : FVec F S64x128 .f32) transposes_S64x128_p1_0_S128x64 : FVec F S128x64 .f32) = colsV v := rfl
theorem to_sqV (r : FVec F S128x64 .f32) : (shapeCast S128x1 (multiReduction .add ([1] : List (Fin 2)) S128 (mulf r r) 0x00000000#32 reduces_S128x64_S128 (.inl rfl) rfl) shapeCasts_S128_S128x1) = sqV r := rfl
theorem to_lanesV  : (sitofp .f32 (iota .tc S128x2048 32 ([1] : List (Fin 2)) iota_S128x2048_d1_w32) : FVec F S128x2048 .f32) = lanesV (F := F)  := rfl
theorem to_distV (r : FVec F S128x64 .f32) (xs : FVec F S128x1 .f32) (cb : Vec F S1x2048x64 .f32) (cs : Vec F S1x2048 .f32) : (addf (subf (broadcastTo S128x2048 xs broadcasts_S128x1_S128x2048) (mulf (broadcast S128x2048 (Scalar.ofBits .f32 0x40000000#32)) (matmul dot_S128x64_S2048x64_S128x2048_1_1_0_0_n_n none r (shapeCast S2048x64 cb shapeCasts_S1x2048x64_S2048x64) (constant S128x2048 .f32 0x00000000#32)))) (broadcastTo S128x2048 (shapeCast S1x2048 (shapeCast S2048 cs shapeCasts_S1x2048_S2048) shapeCasts_S2048_S1x2048) broadcasts_S1x2048_S128x2048)) = distV r xs cb cs := rfl
theorem to_keysV (d : FVec F S128x2048 .f32) : (select (cmpf .oeq d (broadcastTo S128x2048 (firstV d) broadcasts_S128x1_S128x2048)) lanesV (broadcast S128x2048 (Scalar.ofBits .f32 0x45800000#32))) = keysV d := rfl
theorem to_firstV (k : FVec F S128x2048 .f32) : (shapeCast S128x1 (multiReduction .minimumf ([1] : List (Fin 2)) S128 k 0x7F800000#32 reduces_S128x2048_S128 (.inl rfl) rfl) shapeCasts_S128_S128x1) = firstV k := rfl
theorem to_codeV (i : FVec F S128x1 .f32) : (shapeCast S1x1x128 (fptosi 32 (shapeCast S128 i shapeCasts_S128x1_S128)) shapeCasts_S128_S1x1x128) = codeV i := rfl
theorem to_pickV (k : FVec F S128x2048 .f32) (i : FVec F S128x1 .f32) : (truncf .bf16 (sitofp .f32 (extui 32 (cmpf .oeq k (broadcastTo S128x2048 i broadcasts_S128x1_S128x2048)) natLt_1_32)) bitsLt_bf16_f32) = pickV k i := rfl
theorem to_prodV (o : FVec F S128x2048 .bf16) (h : Vec F S1x2048x64 .bf16) : (matmul dot_S128x2048_S2048x64_S128x64_1_0_0_1_n_n none o (shapeCast S2048x64 h shapeCasts_S1x2048x64_S2048x64) (constant S128x64 .f32 0x00000000#32)) = prodV o h := rfl
theorem to_lossV (xs : FVec F S128x1 .f32) : (extractAt ![0, 0, 0] (shapeCast S1x1x1 (multiReduction .add ([1, 2] : List (Fin 3)) S1 (shapeCast S1x128x1 xs shapeCasts_S128x1_S1x128x1) 0x00000000#32 reduces_S1x128x1_S1 (.inl rfl) rfl) shapeCasts_S1_S1x1x1) inpos_S1x1x1_p0_0_0) = lossV xs := rfl
theorem to_backV (q : FVec F S128x64 .f32) : (shapeCast S1x64x128 (transpose S64x128 ([1, 0] : List (Fin 2)) q transposes_S128x64_p1_0_S64x128) shapeCasts_S64x128_S1x64x128) = backV q := rfl
theorem to_stepKeys (r : FVec F S128x64 .f32) (cb : Vec F S1x2048x64 .f32) (cs : Vec F S1x2048 .f32) :
    keysV (distV r (sqV r) cb cs) = stepKeys r cb cs := rfl
theorem to_stepQ (r : FVec F S128x64 .f32) (cb : Vec F S1x2048x64 .f32) (h m l : Vec F S1x2048x64 .bf16) (cs : Vec F S1x2048 .f32) :
    addf (addf (prodV (pickV (stepKeys r cb cs) (firstV (stepKeys r cb cs))) h) (prodV (pickV (stepKeys r cb cs) (firstV (stepKeys r cb cs))) m)) (prodV (pickV (stepKeys r cb cs) (firstV (stepKeys r cb cs))) l) = stepQ r cb h m l cs := rfl

variable (x : Vec F S1x64x128 .f32) (x1 : Vec F S8x2048x64 .f32) (x2 x3 x4 : Vec F S8x2048x64 .bf16) (x5 : Vec F S8x2048 .f32) (y : Vec F S1x64x512 .f32)

theorem to_resV_1 : subf (colsV x) (stepQ (colsV x) (bookV x1 0) (bookV x2 0) (bookV x3 0) (bookV x4 0) (lensV x5 0)) = resV x x1 x2 x3 x4 x5 1 := rfl
theorem to_totV_1 : addf (broadcast S128x64 (Scalar.ofBits .f32 0x00000000#32)) (stepQ (colsV x) (bookV x1 0) (bookV x2 0) (bookV x3 0) (bookV x4 0) (lensV x5 0)) = totV x x1 x2 x3 x4 x5 1 := rfl
theorem to_sumV_1 : Scalar.addf (Scalar.ofBits .f32 0x00000000#32) (Scalar.addf (Scalar.addf (Scalar.addf (Scalar.addf (Scalar.ofBits .f32 0x00000000#32) (lossV (sqV (resV (sub y 0) x1 x2 x3 x4 x5 1)))) (lossV (sqV (resV (sub y 1) x1 x2 x3 x4 x5 1)))) (lossV (sqV (resV (sub y 2) x1 x2 x3 x4 x5 1)))) (lossV (sqV (resV (sub y 3) x1 x2 x3 x4 x5 1)))) = sumV y x1 x2 x3 x4 x5 1 := rfl
theorem to_resV_2 : subf (resV x x1 x2 x3 x4 x5 1) (stepQ (resV x x1 x2 x3 x4 x5 1) (bookV x1 1) (bookV x2 1) (bookV x3 1) (bookV x4 1) (lensV x5 1)) = resV x x1 x2 x3 x4 x5 2 := rfl
theorem to_totV_2 : addf (totV x x1 x2 x3 x4 x5 1) (stepQ (resV x x1 x2 x3 x4 x5 1) (bookV x1 1) (bookV x2 1) (bookV x3 1) (bookV x4 1) (lensV x5 1)) = totV x x1 x2 x3 x4 x5 2 := rfl
theorem to_sumV_2 : Scalar.addf (sumV y x1 x2 x3 x4 x5 1) (Scalar.addf (Scalar.addf (Scalar.addf (Scalar.addf (Scalar.ofBits .f32 0x00000000#32) (lossV (sqV (resV (sub y 0) x1 x2 x3 x4 x5 2)))) (lossV (sqV (resV (sub y 1) x1 x2 x3 x4 x5 2)))) (lossV (sqV (resV (sub y 2) x1 x2 x3 x4 x5 2)))) (lossV (sqV (resV (sub y 3) x1 x2 x3 x4 x5 2)))) = sumV y x1 x2 x3 x4 x5 2 := rfl
theorem to_resV_3 : subf (resV x x1 x2 x3 x4 x5 2) (stepQ (resV x x1 x2 x3 x4 x5 2) (bookV x1 2) (bookV x2 2) (bookV x3 2) (bookV x4 2) (lensV x5 2)) = resV x x1 x2 x3 x4 x5 3 := rfl
theorem to_totV_3 : addf (totV x x1 x2 x3 x4 x5 2) (stepQ (resV x x1 x2 x3 x4 x5 2) (bookV x1 2) (bookV x2 2) (bookV x3 2) (bookV x4 2) (lensV x5 2)) = totV x x1 x2 x3 x4 x5 3 := rfl
theorem to_sumV_3 : Scalar.addf (sumV y x1 x2 x3 x4 x5 2) (Scalar.addf (Scalar.addf (Scalar.addf (Scalar.addf (Scalar.ofBits .f32 0x00000000#32) (lossV (sqV (resV (sub y 0) x1 x2 x3 x4 x5 3)))) (lossV (sqV (resV (sub y 1) x1 x2 x3 x4 x5 3)))) (lossV (sqV (resV (sub y 2) x1 x2 x3 x4 x5 3)))) (lossV (sqV (resV (sub y 3) x1 x2 x3 x4 x5 3)))) = sumV y x1 x2 x3 x4 x5 3 := rfl
theorem to_resV_4 : subf (resV x x1 x2 x3 x4 x5 3) (stepQ (resV x x1 x2 x3 x4 x5 3) (bookV x1 3) (bookV x2 3) (bookV x3 3) (bookV x4 3) (lensV x5 3)) = resV x x1 x2 x3 x4 x5 4 := rfl
theorem to_totV_4 : addf (totV x x1 x2 x3 x4 x5 3) (stepQ (resV x x1 x2 x3 x4 x5 3) (bookV x1 3) (bookV x2 3) (bookV x3 3) (bookV x4 3) (lensV x5 3)) = totV x x1 x2 x3 x4 x5 4 := rfl
theorem to_sumV_4 : Scalar.addf (sumV y x1 x2 x3 x4 x5 3) (Scalar.addf (Scalar.addf (Scalar.addf (Scalar.addf (Scalar.ofBits .f32 0x00000000#32) (lossV (sqV (resV (sub y 0) x1 x2 x3 x4 x5 4)))) (lossV (sqV (resV (sub y 1) x1 x2 x3 x4 x5 4)))) (lossV (sqV (resV (sub y 2) x1 x2 x3 x4 x5 4)))) (lossV (sqV (resV (sub y 3) x1 x2 x3 x4 x5 4)))) = sumV y x1 x2 x3 x4 x5 4 := rfl
theorem to_resV_5 : subf (resV x x1 x2 x3 x4 x5 4) (stepQ (resV x x1 x2 x3 x4 x5 4) (bookV x1 4) (bookV x2 4) (bookV x3 4) (bookV x4 4) (lensV x5 4)) = resV x x1 x2 x3 x4 x5 5 := rfl
theorem to_totV_5 : addf (totV x x1 x2 x3 x4 x5 4) (stepQ (resV x x1 x2 x3 x4 x5 4) (bookV x1 4) (bookV x2 4) (bookV x3 4) (bookV x4 4) (lensV x5 4)) = totV x x1 x2 x3 x4 x5 5 := rfl
theorem to_sumV_5 : Scalar.addf (sumV y x1 x2 x3 x4 x5 4) (Scalar.addf (Scalar.addf (Scalar.addf (Scalar.addf (Scalar.ofBits .f32 0x00000000#32) (lossV (sqV (resV (sub y 0) x1 x2 x3 x4 x5 5)))) (lossV (sqV (resV (sub y 1) x1 x2 x3 x4 x5 5)))) (lossV (sqV (resV (sub y 2) x1 x2 x3 x4 x5 5)))) (lossV (sqV (resV (sub y 3) x1 x2 x3 x4 x5 5)))) = sumV y x1 x2 x3 x4 x5 5 := rfl
theorem to_resV_6 : subf (resV x x1 x2 x3 x4 x5 5) (stepQ (resV x x1 x2 x3 x4 x5 5) (bookV x1 5) (bookV x2 5) (bookV x3 5) (bookV x4 5) (lensV x5 5)) = resV x x1 x2 x3 x4 x5 6 := rfl
theorem to_totV_6 : addf (totV x x1 x2 x3 x4 x5 5) (stepQ (resV x x1 x2 x3 x4 x5 5) (bookV x1 5) (bookV x2 5) (bookV x3 5) (bookV x4 5) (lensV x5 5)) = totV x x1 x2 x3 x4 x5 6 := rfl
theorem to_sumV_6 : Scalar.addf (sumV y x1 x2 x3 x4 x5 5) (Scalar.addf (Scalar.addf (Scalar.addf (Scalar.addf (Scalar.ofBits .f32 0x00000000#32) (lossV (sqV (resV (sub y 0) x1 x2 x3 x4 x5 6)))) (lossV (sqV (resV (sub y 1) x1 x2 x3 x4 x5 6)))) (lossV (sqV (resV (sub y 2) x1 x2 x3 x4 x5 6)))) (lossV (sqV (resV (sub y 3) x1 x2 x3 x4 x5 6)))) = sumV y x1 x2 x3 x4 x5 6 := rfl
theorem to_resV_7 : subf (resV x x1 x2 x3 x4 x5 6) (stepQ (resV x x1 x2 x3 x4 x5 6) (bookV x1 6) (bookV x2 6) (bookV x3 6) (bookV x4 6) (lensV x5 6)) = resV x x1 x2 x3 x4 x5 7 := rfl
theorem to_totV_7 : addf (totV x x1 x2 x3 x4 x5 6) (stepQ (resV x x1 x2 x3 x4 x5 6) (bookV x1 6) (bookV x2 6) (bookV x3 6) (bookV x4 6) (lensV x5 6)) = totV x x1 x2 x3 x4 x5 7 := rfl
theorem to_sumV_7 : Scalar.addf (sumV y x1 x2 x3 x4 x5 6) (Scalar.addf (Scalar.addf (Scalar.addf (Scalar.addf (Scalar.ofBits .f32 0x00000000#32) (lossV (sqV (resV (sub y 0) x1 x2 x3 x4 x5 7)))) (lossV (sqV (resV (sub y 1) x1 x2 x3 x4 x5 7)))) (lossV (sqV (resV (sub y 2) x1 x2 x3 x4 x5 7)))) (lossV (sqV (resV (sub y 3) x1 x2 x3 x4 x5 7)))) = sumV y x1 x2 x3 x4 x5 7 := rfl
theorem to_resV_8 : subf (resV x x1 x2 x3 x4 x5 7) (stepQ (resV x x1 x2 x3 x4 x5 7) (bookV x1 7) (bookV x2 7) (bookV x3 7) (bookV x4 7) (lensV x5 7)) = resV x x1 x2 x3 x4 x5 8 := rfl
theorem to_totV_8 : addf (totV x x1 x2 x3 x4 x5 7) (stepQ (resV x x1 x2 x3 x4 x5 7) (bookV x1 7) (bookV x2 7) (bookV x3 7) (bookV x4 7) (lensV x5 7)) = totV x x1 x2 x3 x4 x5 8 := rfl
theorem to_sumV_8 : Scalar.addf (sumV y x1 x2 x3 x4 x5 7) (Scalar.addf (Scalar.addf (Scalar.addf (Scalar.addf (Scalar.ofBits .f32 0x00000000#32) (lossV (sqV (resV (sub y 0) x1 x2 x3 x4 x5 8)))) (lossV (sqV (resV (sub y 1) x1 x2 x3 x4 x5 8)))) (lossV (sqV (resV (sub y 2) x1 x2 x3 x4 x5 8)))) (lossV (sqV (resV (sub y 3) x1 x2 x3 x4 x5 8)))) = sumV y x1 x2 x3 x4 x5 8 := rfl

end Rules

/-! ## The loads -/

section Loads

variable (y : Vec F S1x64x512 .f32) (x1 : Vec F S8x2048x64 .f32) (x2 : Vec F S8x2048x64 .bf16) (x5 : Vec F S8x2048 .f32)

theorem ld_sub_0 : View.ld (Val := Elt F) (e' := .f32) y (Rect.unit (s := S1x64x512) ![0, 0, 0] ![1, 64, 128] inb_S1x64x512_S1x64x128_0_0_0) = sub y 0 := by
  funext j; idx_vars j; obtain rfl := Subsingleton.elim j0 0; pointwise [sub]
theorem ld_sub_1 : View.ld (Val := Elt F) (e' := .f32) y (Rect.unit (s := S1x64x512) ![0, 0, 128] ![1, 64, 128] inb_S1x64x512_S1x64x128_0_0_128) = sub y 1 := by
  funext j; idx_vars j; obtain rfl := Subsingleton.elim j0 0; pointwise [sub]
theorem ld_sub_2 : View.ld (Val := Elt F) (e' := .f32) y (Rect.unit (s := S1x64x512) ![0, 0, 256] ![1, 64, 128] inb_S1x64x512_S1x64x128_0_0_256) = sub y 2 := by
  funext j; idx_vars j; obtain rfl := Subsingleton.elim j0 0; pointwise [sub]
theorem ld_sub_3 : View.ld (Val := Elt F) (e' := .f32) y (Rect.unit (s := S1x64x512) ![0, 0, 384] ![1, 64, 128] inb_S1x64x512_S1x64x128_0_0_384) = sub y 3 := by
  funext j; idx_vars j; obtain rfl := Subsingleton.elim j0 0; pointwise [sub]
theorem ld_book_0 : View.ld (Val := Elt F) (e' := .f32) x1 (Rect.unit (s := S8x2048x64) ![0, 0, 0] ![1, 2048, 64] inb_S8x2048x64_S1x2048x64_0_0_0) = bookV x1 0 := by
  funext j; idx_vars j; pointwise [bookV]
theorem ld_half_0 : View.ld (Val := Elt F) (e' := .bf16) x2 (Rect.unit (s := S8x2048x64) ![0, 0, 0] ![1, 2048, 64] inb_S8x2048x64_S1x2048x64_0_0_0) = bookV x2 0 := by
  funext j; idx_vars j; pointwise [bookV]
theorem ld_lens_0 : View.ld (Val := Elt F) (e' := .f32) x5 (Rect.unit (s := S8x2048) ![0, 0] ![1, 2048] inb_S8x2048_S1x2048_0_0) = lensV x5 0 := by
  funext j; idx_vars j; pointwise [lensV]
theorem ld_book_1 : View.ld (Val := Elt F) (e' := .f32) x1 (Rect.unit (s := S8x2048x64) ![1, 0, 0] ![1, 2048, 64] inb_S8x2048x64_S1x2048x64_1_0_0) = bookV x1 1 := by
  funext j; idx_vars j; pointwise [bookV]
theorem ld_half_1 : View.ld (Val := Elt F) (e' := .bf16) x2 (Rect.unit (s := S8x2048x64) ![1, 0, 0] ![1, 2048, 64] inb_S8x2048x64_S1x2048x64_1_0_0) = bookV x2 1 := by
  funext j; idx_vars j; pointwise [bookV]
theorem ld_lens_1 : View.ld (Val := Elt F) (e' := .f32) x5 (Rect.unit (s := S8x2048) ![1, 0] ![1, 2048] inb_S8x2048_S1x2048_1_0) = lensV x5 1 := by
  funext j; idx_vars j; pointwise [lensV]
theorem ld_book_2 : View.ld (Val := Elt F) (e' := .f32) x1 (Rect.unit (s := S8x2048x64) ![2, 0, 0] ![1, 2048, 64] inb_S8x2048x64_S1x2048x64_2_0_0) = bookV x1 2 := by
  funext j; idx_vars j; pointwise [bookV]
theorem ld_half_2 : View.ld (Val := Elt F) (e' := .bf16) x2 (Rect.unit (s := S8x2048x64) ![2, 0, 0] ![1, 2048, 64] inb_S8x2048x64_S1x2048x64_2_0_0) = bookV x2 2 := by
  funext j; idx_vars j; pointwise [bookV]
theorem ld_lens_2 : View.ld (Val := Elt F) (e' := .f32) x5 (Rect.unit (s := S8x2048) ![2, 0] ![1, 2048] inb_S8x2048_S1x2048_2_0) = lensV x5 2 := by
  funext j; idx_vars j; pointwise [lensV]
theorem ld_book_3 : View.ld (Val := Elt F) (e' := .f32) x1 (Rect.unit (s := S8x2048x64) ![3, 0, 0] ![1, 2048, 64] inb_S8x2048x64_S1x2048x64_3_0_0) = bookV x1 3 := by
  funext j; idx_vars j; pointwise [bookV]
theorem ld_half_3 : View.ld (Val := Elt F) (e' := .bf16) x2 (Rect.unit (s := S8x2048x64) ![3, 0, 0] ![1, 2048, 64] inb_S8x2048x64_S1x2048x64_3_0_0) = bookV x2 3 := by
  funext j; idx_vars j; pointwise [bookV]
theorem ld_lens_3 : View.ld (Val := Elt F) (e' := .f32) x5 (Rect.unit (s := S8x2048) ![3, 0] ![1, 2048] inb_S8x2048_S1x2048_3_0) = lensV x5 3 := by
  funext j; idx_vars j; pointwise [lensV]
theorem ld_book_4 : View.ld (Val := Elt F) (e' := .f32) x1 (Rect.unit (s := S8x2048x64) ![4, 0, 0] ![1, 2048, 64] inb_S8x2048x64_S1x2048x64_4_0_0) = bookV x1 4 := by
  funext j; idx_vars j; pointwise [bookV]
theorem ld_half_4 : View.ld (Val := Elt F) (e' := .bf16) x2 (Rect.unit (s := S8x2048x64) ![4, 0, 0] ![1, 2048, 64] inb_S8x2048x64_S1x2048x64_4_0_0) = bookV x2 4 := by
  funext j; idx_vars j; pointwise [bookV]
theorem ld_lens_4 : View.ld (Val := Elt F) (e' := .f32) x5 (Rect.unit (s := S8x2048) ![4, 0] ![1, 2048] inb_S8x2048_S1x2048_4_0) = lensV x5 4 := by
  funext j; idx_vars j; pointwise [lensV]
theorem ld_book_5 : View.ld (Val := Elt F) (e' := .f32) x1 (Rect.unit (s := S8x2048x64) ![5, 0, 0] ![1, 2048, 64] inb_S8x2048x64_S1x2048x64_5_0_0) = bookV x1 5 := by
  funext j; idx_vars j; pointwise [bookV]
theorem ld_half_5 : View.ld (Val := Elt F) (e' := .bf16) x2 (Rect.unit (s := S8x2048x64) ![5, 0, 0] ![1, 2048, 64] inb_S8x2048x64_S1x2048x64_5_0_0) = bookV x2 5 := by
  funext j; idx_vars j; pointwise [bookV]
theorem ld_lens_5 : View.ld (Val := Elt F) (e' := .f32) x5 (Rect.unit (s := S8x2048) ![5, 0] ![1, 2048] inb_S8x2048_S1x2048_5_0) = lensV x5 5 := by
  funext j; idx_vars j; pointwise [lensV]
theorem ld_book_6 : View.ld (Val := Elt F) (e' := .f32) x1 (Rect.unit (s := S8x2048x64) ![6, 0, 0] ![1, 2048, 64] inb_S8x2048x64_S1x2048x64_6_0_0) = bookV x1 6 := by
  funext j; idx_vars j; pointwise [bookV]
theorem ld_half_6 : View.ld (Val := Elt F) (e' := .bf16) x2 (Rect.unit (s := S8x2048x64) ![6, 0, 0] ![1, 2048, 64] inb_S8x2048x64_S1x2048x64_6_0_0) = bookV x2 6 := by
  funext j; idx_vars j; pointwise [bookV]
theorem ld_lens_6 : View.ld (Val := Elt F) (e' := .f32) x5 (Rect.unit (s := S8x2048) ![6, 0] ![1, 2048] inb_S8x2048_S1x2048_6_0) = lensV x5 6 := by
  funext j; idx_vars j; pointwise [lensV]
theorem ld_book_7 : View.ld (Val := Elt F) (e' := .f32) x1 (Rect.unit (s := S8x2048x64) ![7, 0, 0] ![1, 2048, 64] inb_S8x2048x64_S1x2048x64_7_0_0) = bookV x1 7 := by
  funext j; idx_vars j; pointwise [bookV]
theorem ld_half_7 : View.ld (Val := Elt F) (e' := .bf16) x2 (Rect.unit (s := S8x2048x64) ![7, 0, 0] ![1, 2048, 64] inb_S8x2048x64_S1x2048x64_7_0_0) = bookV x2 7 := by
  funext j; idx_vars j; pointwise [bookV]
theorem ld_lens_7 : View.ld (Val := Elt F) (e' := .f32) x5 (Rect.unit (s := S8x2048) ![7, 0] ![1, 2048] inb_S8x2048_S1x2048_7_0) = lensV x5 7 := by
  funext j; idx_vars j; pointwise [lensV]

end Loads

end Cert.KernelIdeal.Tile
-- ==== Proof.Pieces.lean ====
/-
  The lists of the pieces the body stores into its first two outputs.
-/
module

public import proofs.«01_k».proof.Proof.Tile

@[expose] public section

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- The four sub-tiles of selected rows, last first. -/
def totPieces (x0 : Vec F S1x64x512 .f32) (x1 : Vec F S8x2048x64 .f32) (x2 x3 x4 : Vec F S8x2048x64 .bf16) (x5 : Vec F S8x2048 .f32) : List (View.Piece (Elt F) S1x64x512 .f32) :=
  [⟨Rect.unit (s := S1x64x512) ![0, 0, 384] S1x64x128.size inb_S1x64x512_S1x64x128_0_0_384, (backV (totV (sub x0 3) x1 x2 x3 x4 x5 8))⟩,
   ⟨Rect.unit (s := S1x64x512) ![0, 0, 256] S1x64x128.size inb_S1x64x512_S1x64x128_0_0_256, (backV (totV (sub x0 2) x1 x2 x3 x4 x5 8))⟩,
   ⟨Rect.unit (s := S1x64x512) ![0, 0, 128] S1x64x128.size inb_S1x64x512_S1x64x128_0_0_128, (backV (totV (sub x0 1) x1 x2 x3 x4 x5 8))⟩,
   ⟨Rect.unit (s := S1x64x512) ![0, 0, 0] S1x64x128.size inb_S1x64x512_S1x64x128_0_0_0, (backV (totV (sub x0 0) x1 x2 x3 x4 x5 8))⟩]

/-- The thirty-two rows of codes, last first. -/
def codePieces (x0 : Vec F S1x64x512 .f32) (x1 : Vec F S8x2048x64 .f32) (x2 x3 x4 : Vec F S8x2048x64 .bf16) (x5 : Vec F S8x2048 .f32) : List (View.Piece (Elt F) S1x8x512 .i32) :=
  [⟨Rect.unit (s := S1x8x512) ![0, 7, 384] S1x1x128.size inb_S1x8x512_S1x1x128_0_7_384, codesV (sub x0 3) x1 x2 x3 x4 x5 7⟩,
   ⟨Rect.unit (s := S1x8x512) ![0, 7, 256] S1x1x128.size inb_S1x8x512_S1x1x128_0_7_256, codesV (sub x0 2) x1 x2 x3 x4 x5 7⟩,
   ⟨Rect.unit (s := S1x8x512) ![0, 7, 128] S1x1x128.size inb_S1x8x512_S1x1x128_0_7_128, codesV (sub x0 1) x1 x2 x3 x4 x5 7⟩,
   ⟨Rect.unit (s := S1x8x512) ![0, 7, 0] S1x1x128.size inb_S1x8x512_S1x1x128_0_7_0, codesV (sub x0 0) x1 x2 x3 x4 x5 7⟩,
   ⟨Rect.unit (s := S1x8x512) ![0, 6, 384] S1x1x128.size inb_S1x8x512_S1x1x128_0_6_384, codesV (sub x0 3) x1 x2 x3 x4 x5 6⟩,
   ⟨Rect.unit (s := S1x8x512) ![0, 6, 256] S1x1x128.size inb_S1x8x512_S1x1x128_0_6_256, codesV (sub x0 2) x1 x2 x3 x4 x5 6⟩,
   ⟨Rect.unit (s := S1x8x512) ![0, 6, 128] S1x1x128.size inb_S1x8x512_S1x1x128_0_6_128, codesV (sub x0 1) x1 x2 x3 x4 x5 6⟩,
   ⟨Rect.unit (s := S1x8x512) ![0, 6, 0] S1x1x128.size inb_S1x8x512_S1x1x128_0_6_0, codesV (sub x0 0) x1 x2 x3 x4 x5 6⟩,
   ⟨Rect.unit (s := S1x8x512) ![0, 5, 384] S1x1x128.size inb_S1x8x512_S1x1x128_0_5_384, codesV (sub x0 3) x1 x2 x3 x4 x5 5⟩,
   ⟨Rect.unit (s := S1x8x512) ![0, 5, 256] S1x1x128.size inb_S1x8x512_S1x1x128_0_5_256, codesV (sub x0 2) x1 x2 x3 x4 x5 5⟩,
   ⟨Rect.unit (s := S1x8x512) ![0, 5, 128] S1x1x128.size inb_S1x8x512_S1x1x128_0_5_128, codesV (sub x0 1) x1 x2 x3 x4 x5 5⟩,
   ⟨Rect.unit (s := S1x8x512) ![0, 5, 0] S1x1x128.size inb_S1x8x512_S1x1x128_0_5_0, codesV (sub x0 0) x1 x2 x3 x4 x5 5⟩,
   ⟨Rect.unit (s := S1x8x512) ![0, 4, 384] S1x1x128.size inb_S1x8x512_S1x1x128_0_4_384, codesV (sub x0 3) x1 x2 x3 x4 x5 4⟩,
   ⟨Rect.unit (s := S1x8x512) ![0, 4, 256] S1x1x128.size inb_S1x8x512_S1x1x128_0_4_256, codesV (sub x0 2) x1 x2 x3 x4 x5 4⟩,
   ⟨Rect.unit (s := S1x8x512) ![0, 4, 128] S1x1x128.size inb_S1x8x512_S1x1x128_0_4_128, codesV (sub x0 1) x1 x2 x3 x4 x5 4⟩,
   ⟨Rect.unit (s := S1x8x512) ![0, 4, 0] S1x1x128.size inb_S1x8x512_S1x1x128_0_4_0, codesV (sub x0 0) x1 x2 x3 x4 x5 4⟩,
   ⟨Rect.unit (s := S1x8x512) ![0, 3, 384] S1x1x128.size inb_S1x8x512_S1x1x128_0_3_384, codesV (sub x0 3) x1 x2 x3 x4 x5 3⟩,
   ⟨Rect.unit (s := S1x8x512) ![0, 3, 256] S1x1x128.size inb_S1x8x512_S1x1x128_0_3_256, codesV (sub x0 2) x1 x2 x3 x4 x5 3⟩,
   ⟨Rect.unit (s := S1x8x512) ![0, 3, 128] S1x1x128.size inb_S1x8x512_S1x1x128_0_3_128, codesV (sub x0 1) x1 x2 x3 x4 x5 3⟩,
   ⟨Rect.unit (s := S1x8x512) ![0, 3, 0] S1x1x128.size inb_S1x8x512_S1x1x128_0_3_0, codesV (sub x0 0) x1 x2 x3 x4 x5 3⟩,
   ⟨Rect.unit (s := S1x8x512) ![0, 2, 384] S1x1x128.size inb_S1x8x512_S1x1x128_0_2_384, codesV (sub x0 3) x1 x2 x3 x4 x5 2⟩,
   ⟨Rect.unit (s := S1x8x512) ![0, 2, 256] S1x1x128.size inb_S1x8x512_S1x1x128_0_2_256, codesV (sub x0 2) x1 x2 x3 x4 x5 2⟩,
   ⟨Rect.unit (s := S1x8x512) ![0, 2, 128] S1x1x128.size inb_S1x8x512_S1x1x128_0_2_128, codesV (sub x0 1) x1 x2 x3 x4 x5 2⟩,
   ⟨Rect.unit (s := S1x8x512) ![0, 2, 0] S1x1x128.size inb_S1x8x512_S1x1x128_0_2_0, codesV (sub x0 0) x1 x2 x3 x4 x5 2⟩,
   ⟨Rect.unit (s := S1x8x512) ![0, 1, 384] S1x1x128.size inb_S1x8x512_S1x1x128_0_1_384, codesV (sub x0 3) x1 x2 x3 x4 x5 1⟩,
   ⟨Rect.unit (s := S1x8x512) ![0, 1, 256] S1x1x128.size inb_S1x8x512_S1x1x128_0_1_256, codesV (sub x0 2) x1 x2 x3 x4 x5 1⟩,
   ⟨Rect.unit (s := S1x8x512) ![0, 1, 128] S1x1x128.size inb_S1x8x512_S1x1x128_0_1_128, codesV (sub x0 1) x1 x2 x3 x4 x5 1⟩,
   ⟨Rect.unit (s := S1x8x512) ![0, 1, 0] S1x1x128.size inb_S1x8x512_S1x1x128_0_1_0, codesV (sub x0 0) x1 x2 x3 x4 x5 1⟩,
   ⟨Rect.unit (s := S1x8x512) ![0, 0, 384] S1x1x128.size inb_S1x8x512_S1x1x128_0_0_384, codesV (sub x0 3) x1 x2 x3 x4 x5 0⟩,
   ⟨Rect.unit (s := S1x8x512) ![0, 0, 256] S1x1x128.size inb_S1x8x512_S1x1x128_0_0_256, codesV (sub x0 2) x1 x2 x3 x4 x5 0⟩,
   ⟨Rect.unit (s := S1x8x512) ![0, 0, 128] S1x1x128.size inb_S1x8x512_S1x1x128_0_0_128, codesV (sub x0 1) x1 x2 x3 x4 x5 0⟩,
   ⟨Rect.unit (s := S1x8x512) ![0, 0, 0] S1x1x128.size inb_S1x8x512_S1x1x128_0_0_0, codesV (sub x0 0) x1 x2 x3 x4 x5 0⟩]

end Cert.KernelIdeal.Tile
-- ==== Proof.PiecesA.lean ====
/-
  The pieces the body stores in case A, read as the sub-tiles' sums and codes.
-/
module

public import proofs.«01_k».proof.Proof.Pieces
public import proofs.«01_k».proof.Proof.Gen.KernelIdeal.Frame

@[expose] public section

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- The stores into output 6. -/
theorem pieces_A_6 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : cond0_0 i) (hc1 : ¬cond0_1 i)
    (x0 : Vec F S1x64x512 .f32) (x1 : Vec F S8x2048x64 .f32) (x2 x3 x4 : Vec F S8x2048x64 .bf16) (x5 : Vec F S8x2048 .f32) :
    (kernelRun0_A c i arg2 harg2 arg3 harg3 arg4 harg4 arg5 harg5 arg6 harg6 arg7 harg7 arg8 harg8 arg9 harg9 arg10 harg10 hc0 hc1 x0 x1 x2 x3 x4 x5).1 = totPieces x0 x1 x2 x3 x4 x5 := by
  unfold kernelRun0_A
  dsimp only
  sl_unfold_words
  simp only [View.readAt_eq_ld, harg2.read_unread, harg3.read_unread, harg4.read_unread, harg5.read_unread, harg6.read_unread, harg7.read_unread, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]
  rfl

/-- The stores into output 7. -/
theorem pieces_A_7 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : cond0_0 i) (hc1 : ¬cond0_1 i)
    (x0 : Vec F S1x64x512 .f32) (x1 : Vec F S8x2048x64 .f32) (x2 x3 x4 : Vec F S8x2048x64 .bf16) (x5 : Vec F S8x2048 .f32) :
    (kernelRun0_A c i arg2 harg2 arg3 harg3 arg4 harg4 arg5 harg5 arg6 harg6 arg7 harg7 arg8 harg8 arg9 harg9 arg10 harg10 hc0 hc1 x0 x1 x2 x3 x4 x5).2.1 = codePieces x0 x1 x2 x3 x4 x5 := by
  unfold kernelRun0_A
  dsimp only
  sl_unfold_words
  simp only [View.readAt_eq_ld, harg2.read_unread, harg3.read_unread, harg4.read_unread, harg5.read_unread, harg6.read_unread, harg7.read_unread, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]
  rfl

theorem zeroOffA : (![0, 0] : Fin 2 → Nat) = fun _ => 0 := funext fun a => by fin_cases a <;> rfl

/-- What case A leaves in the loss. -/
theorem out_A_8 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : cond0_0 i) (hc1 : ¬cond0_1 i)
    (x0 : Vec F S1x64x512 .f32) (x1 : Vec F S8x2048x64 .f32) (x2 x3 x4 : Vec F S8x2048x64 .bf16) (x5 : Vec F S8x2048 .f32) :
    out0_A_8 c i arg2 harg2 arg3 harg3 arg4 harg4 arg5 harg5 arg6 harg6 arg7 harg7 arg8 harg8 arg9 harg9 arg10 harg10 hc0 hc1 x0 x1 x2 x3 x4 x5 = addf (broadcast S1x1 (Scalar.ofBits .f32 0x00000000#32)) (broadcast S1x1 (sumV x0 x1 x2 x3 x4 x5 8)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) zeroOffA]
  simp only [View.readAt_eq_ld, harg2.read_unread, harg3.read_unread, harg4.read_unread, harg5.read_unread, harg6.read_unread, harg7.read_unread, harg10.read_unread, View.ld_unit_zero (S := S1x1) zeroOffA, shapeCast_self, View.readCov_unit_zero (S := S1x1) _ zeroOffA, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]

end Cert.KernelIdeal.Tile
-- ==== Proof.PiecesB.lean ====
/-
  The pieces the body stores in case B, read as the sub-tiles' sums and codes.
-/
module

public import proofs.«01_k».proof.Proof.Pieces
public import proofs.«01_k».proof.Proof.Gen.KernelIdeal.Frame

@[expose] public section

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- The stores into output 6. -/
theorem pieces_B_6 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : ¬cond0_1 i)
    (x0 : Vec F S1x64x512 .f32) (x1 : Vec F S8x2048x64 .f32) (x2 x3 x4 : Vec F S8x2048x64 .bf16) (x5 : Vec F S8x2048 .f32) (xo8 : Vec F S1x1 .f32) :
    (kernelRun0_B c i arg2 harg2 arg3 harg3 arg4 harg4 arg5 harg5 arg6 harg6 arg7 harg7 arg8 harg8 arg9 harg9 arg10 harg10 hc0 hc1 x0 x1 x2 x3 x4 x5 xo8).1 = totPieces x0 x1 x2 x3 x4 x5 := by
  unfold kernelRun0_B
  dsimp only
  sl_unfold_words
  simp only [View.readAt_eq_ld, harg2.read_unread, harg3.read_unread, harg4.read_unread, harg5.read_unread, harg6.read_unread, harg7.read_unread, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]
  rfl

/-- The stores into output 7. -/
theorem pieces_B_7 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : ¬cond0_1 i)
    (x0 : Vec F S1x64x512 .f32) (x1 : Vec F S8x2048x64 .f32) (x2 x3 x4 : Vec F S8x2048x64 .bf16) (x5 : Vec F S8x2048 .f32) (xo8 : Vec F S1x1 .f32) :
    (kernelRun0_B c i arg2 harg2 arg3 harg3 arg4 harg4 arg5 harg5 arg6 harg6 arg7 harg7 arg8 harg8 arg9 harg9 arg10 harg10 hc0 hc1 x0 x1 x2 x3 x4 x5 xo8).2.1 = codePieces x0 x1 x2 x3 x4 x5 := by
  unfold kernelRun0_B
  dsimp only
  sl_unfold_words
  simp only [View.readAt_eq_ld, harg2.read_unread, harg3.read_unread, harg4.read_unread, harg5.read_unread, harg6.read_unread, harg7.read_unread, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]
  rfl

theorem zeroOffB : (![0, 0] : Fin 2 → Nat) = fun _ => 0 := funext fun a => by fin_cases a <;> rfl

/-- What case B leaves in the loss. -/
theorem out_B_8 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : ¬cond0_1 i)
    (x0 : Vec F S1x64x512 .f32) (x1 : Vec F S8x2048x64 .f32) (x2 x3 x4 : Vec F S8x2048x64 .bf16) (x5 : Vec F S8x2048 .f32) (xo8 : Vec F S1x1 .f32) :
    out0_B_8 c i arg2 harg2 arg3 harg3 arg4 harg4 arg5 harg5 arg6 harg6 arg7 harg7 arg8 harg8 arg9 harg9 arg10 harg10 hc0 hc1 x0 x1 x2 x3 x4 x5 xo8 = addf xo8 (broadcast S1x1 (sumV x0 x1 x2 x3 x4 x5 8)) := by
  unfold out0_B_8
  rw [View.read_writes_eq_canon _ _ _ (cover0_B_8 c i arg2 harg2 arg3 harg3 arg4 harg4 arg5 harg5 arg6 harg6 arg7 harg7 arg8 harg8 arg9 harg9 arg10 harg10 hc0 hc1 x0 x1 x2 x3 x4 x5 xo8)]
  unfold kernelRun0_B
  dsimp only
  sl_unfold_words
  rw [View.canon_unit_zero (S := S1x1) zeroOffB]
  simp only [View.readAt_eq_ld, harg2.read_unread, harg3.read_unread, harg4.read_unread, harg5.read_unread, harg6.read_unread, harg7.read_unread, harg10.read_unread, View.ld_unit_zero (S := S1x1) zeroOffB, shapeCast_self, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]

end Cert.KernelIdeal.Tile
-- ==== Proof.PiecesC.lean ====
/-
  The pieces the body stores in case C, read as the sub-tiles' sums and codes.
-/
module

public import proofs.«01_k».proof.Proof.Pieces
public import proofs.«01_k».proof.Proof.Gen.KernelIdeal.Frame

@[expose] public section

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- The stores into output 6. -/
theorem pieces_C_6 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : cond0_1 i)
    (x0 : Vec F S1x64x512 .f32) (x1 : Vec F S8x2048x64 .f32) (x2 x3 x4 : Vec F S8x2048x64 .bf16) (x5 : Vec F S8x2048 .f32) (xo8 : Vec F S1x1 .f32) :
    (kernelRun0_C c i arg2 harg2 arg3 harg3 arg4 harg4 arg5 harg5 arg6 harg6 arg7 harg7 arg8 harg8 arg9 harg9 arg10 harg10 hc0 hc1 x0 x1 x2 x3 x4 x5 xo8).1 = totPieces x0 x1 x2 x3 x4 x5 := by
  unfold kernelRun0_C
  dsimp only
  sl_unfold_words
  simp only [View.readAt_eq_ld, harg2.read_unread, harg3.read_unread, harg4.read_unread, harg5.read_unread, harg6.read_unread, harg7.read_unread, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]
  rfl

/-- The stores into output 7. -/
theorem pieces_C_7 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : cond0_1 i)
    (x0 : Vec F S1x64x512 .f32) (x1 : Vec F S8x2048x64 .f32) (x2 x3 x4 : Vec F S8x2048x64 .bf16) (x5 : Vec F S8x2048 .f32) (xo8 : Vec F S1x1 .f32) :
    (kernelRun0_C c i arg2 harg2 arg3 harg3 arg4 harg4 arg5 harg5 arg6 harg6 arg7 harg7 arg8 harg8 arg9 harg9 arg10 harg10 hc0 hc1 x0 x1 x2 x3 x4 x5 xo8).2.1 = codePieces x0 x1 x2 x3 x4 x5 := by
  unfold kernelRun0_C
  dsimp only
  sl_unfold_words
  simp only [View.readAt_eq_ld, harg2.read_unread, harg3.read_unread, harg4.read_unread, harg5.read_unread, harg6.read_unread, harg7.read_unread, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]
  rfl

theorem zeroOffC : (![0, 0] : Fin 2 → Nat) = fun _ => 0 := funext fun a => by fin_cases a <;> rfl

/-- What case C leaves in the loss. -/
theorem out_C_8 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : cond0_1 i)
    (x0 : Vec F S1x64x512 .f32) (x1 : Vec F S8x2048x64 .f32) (x2 x3 x4 : Vec F S8x2048x64 .bf16) (x5 : Vec F S8x2048 .f32) (xo8 : Vec F S1x1 .f32) :
    out0_C_8 c i arg2 harg2 arg3 harg3 arg4 harg4 arg5 harg5 arg6 harg6 arg7 harg7 arg8 harg8 arg9 harg9 arg10 harg10 hc0 hc1 x0 x1 x2 x3 x4 x5 xo8 = mulf (addf xo8 (broadcast S1x1 (sumV x0 x1 x2 x3 x4 x5 8))) (broadcast S1x1 (Scalar.ofBits .f32 0x34800000#32)) := by
  unfold out0_C_8
  rw [View.read_writes_eq_canon _ _ _ (cover0_C_8 c i arg2 harg2 arg3 harg3 arg4 harg4 arg5 harg5 arg6 harg6 arg7 harg7 arg8 harg8 arg9 harg9 arg10 harg10 hc0 hc1 x0 x1 x2 x3 x4 x5 xo8)]
  unfold kernelRun0_C
  dsimp only
  sl_unfold_words
  rw [View.canon_cons_unit_zero (S := S1x1) zeroOffC, View.readCov_unit_zero (S := S1x1) _ zeroOffC]
  simp only [View.readAt_eq_ld, harg2.read_unread, harg3.read_unread, harg4.read_unread, harg5.read_unread, harg6.read_unread, harg7.read_unread, harg10.read_unread, View.ld_unit_zero (S := S1x1) zeroOffC, shapeCast_self, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, to_colsV, to_sqV, to_lanesV, to_distV, to_keysV, to_firstV, to_codeV, to_pickV, to_prodV, to_lossV, to_backV, to_stepKeys, to_stepQ, to_resV_1, to_totV_1, to_sumV_1, to_resV_2, to_totV_2, to_sumV_2, to_resV_3, to_totV_3, to_sumV_3, to_resV_4, to_totV_4, to_sumV_4, to_resV_5, to_totV_5, to_sumV_5, to_resV_6, to_totV_6, to_sumV_6, to_resV_7, to_totV_7, to_sumV_7, to_resV_8, to_totV_8, to_sumV_8, ld_sub_0, ld_sub_1, ld_sub_2, ld_sub_3, ld_book_0, ld_half_0, ld_lens_0, ld_book_1, ld_half_1, ld_lens_1, ld_book_2, ld_half_2, ld_lens_2, ld_book_3, ld_half_3, ld_lens_3, ld_book_4, ld_half_4, ld_lens_4, ld_book_5, ld_half_5, ld_lens_5, ld_book_6, ld_half_6, ld_lens_6, ld_book_7, ld_half_7, ld_lens_7]

end Cert.KernelIdeal.Tile
-- ==== Proof.Blocks.lean ====
/-
  What the body leaves in its three output blocks, in every case of the grid, as functions of the input blocks.
-/
module

public import proofs.«01_k».proof.Proof.PiecesA
public import proofs.«01_k».proof.Proof.PiecesB
public import proofs.«01_k».proof.Proof.PiecesC
public import Idealize.ShloMosaic.Lib.Pipeline.Value
public import Idealize.ShloMosaic.Lib.Tactic
public import Idealize.ShloMosaic.Lib.Pipeline.ValueKit.Tiles

@[expose] public section

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- The block of selected rows: column `j 2` lies in sub-tile `j 2 / 128`. -/
def totB (x0 : Vec F S1x64x512 .f32) (x1 : Vec F S8x2048x64 .f32) (x2 x3 x4 : Vec F S8x2048x64 .bf16) (x5 : Vec F S8x2048 .f32) : Vec F S1x64x512 .f32 := fun j =>
  backV (totV (sub x0 ⟨(j 2).val / 128, by have h : (j 2).val < 512 := (j 2).isLt; omega⟩) x1 x2 x3 x4 x5 8)
    (ix3 (n0 := 1) (n1 := 64) (n2 := 128) 0 (j 1) ⟨(j 2).val % 128, Nat.mod_lt _ (by decide)⟩)

/-- The block of codes. -/
def codeB (x0 : Vec F S1x64x512 .f32) (x1 : Vec F S8x2048x64 .f32) (x2 x3 x4 : Vec F S8x2048x64 .bf16) (x5 : Vec F S8x2048 .f32) : Vec F S1x8x512 .i32 := fun j =>
  codesV (sub x0 ⟨(j 2).val / 128, by have h : (j 2).val < 512 := (j 2).isLt; omega⟩) x1 x2 x3 x4 x5 (j 1).val
    (ix3 (n0 := 1) (n1 := 1) (n2 := 128) 0 0 ⟨(j 2).val % 128, Nat.mod_lt _ (by decide)⟩)

theorem totB_at (x0 : Vec F S1x64x512 .f32) (x1 : Vec F S8x2048x64 .f32) (x2 x3 x4 : Vec F S8x2048x64 .bf16) (x5 : Vec F S8x2048 .f32) (s : Fin 4) (d : Fin 64) (t : Fin 128) (k : Fin 512) (hk : k.val = 128 * s.val + t.val) :
    totB x0 x1 x2 x3 x4 x5 (ix3 (n0 := 1) (n1 := 64) (n2 := 512) 0 d k) = backV (totV (sub x0 s) x1 x2 x3 x4 x5 8) (ix3 (n0 := 1) (n1 := 64) (n2 := 128) 0 d t) := by
  have e1 : (⟨k.val / 128, by omega⟩ : Fin 4) = s := Fin.ext (by show k.val / 128 = s.val; omega)
  have e2 : (⟨k.val % 128, Nat.mod_lt _ (by decide)⟩ : Fin 128) = t := Fin.ext (by show k.val % 128 = t.val; omega)
  show backV (totV (sub x0 ⟨k.val / 128, _⟩) x1 x2 x3 x4 x5 8) (ix3 (n0 := 1) (n1 := 64) (n2 := 128) 0 d ⟨k.val % 128, _⟩) = _
  rw [e1, e2]

theorem codeB_at (x0 : Vec F S1x64x512 .f32) (x1 : Vec F S8x2048x64 .f32) (x2 x3 x4 : Vec F S8x2048x64 .bf16) (x5 : Vec F S8x2048 .f32) (s : Fin 4) (i : Fin 8) (t : Fin 128) (k : Fin 512) (hk : k.val = 128 * s.val + t.val) :
    codeB x0 x1 x2 x3 x4 x5 (ix3 (n0 := 1) (n1 := 8) (n2 := 512) 0 i k) = codesV (sub x0 s) x1 x2 x3 x4 x5 i.val (ix3 (n0 := 1) (n1 := 1) (n2 := 128) 0 0 t) := by
  have e1 : (⟨k.val / 128, by omega⟩ : Fin 4) = s := Fin.ext (by show k.val / 128 = s.val; omega)
  have e2 : (⟨k.val % 128, Nat.mod_lt _ (by decide)⟩ : Fin 128) = t := Fin.ext (by show k.val % 128 = t.val; omega)
  show codesV (sub x0 ⟨k.val / 128, _⟩) x1 x2 x3 x4 x5 i.val (ix3 (n0 := 1) (n1 := 1) (n2 := 128) 0 0 ⟨k.val % 128, _⟩) = _
  rw [e1, e2]

theorem canon_tot (x0 : Vec F S1x64x512 .f32) (x1 : Vec F S8x2048x64 .f32) (x2 x3 x4 : Vec F S8x2048x64 .bf16) (x5 : Vec F S8x2048 .f32) : View.canon (totPieces x0 x1 x2 x3 x4 x5) = totB x0 x1 x2 x3 x4 x5 := by
  funext y
  idx_vars y
  obtain rfl := Subsingleton.elim y0 0
  unfold totPieces
  canon_tiles z h
  all_goals
    idx_vars z
    obtain rfl := Subsingleton.elim z0 0
    obtain rfl : y1 = z1 := Fin.ext h1
    refine (totB_at x0 x1 x2 x3 x4 x5 _ y1 z2 y2 ?_).symm
    simp only [Fin.isValue, Fin.val_zero, Fin.val_one, Fin.val_two, Fin.reduceFinMk, Fin.coe_ofNat_eq_mod]
    omega

theorem canon_code (x0 : Vec F S1x64x512 .f32) (x1 : Vec F S8x2048x64 .f32) (x2 x3 x4 : Vec F S8x2048x64 .bf16) (x5 : Vec F S8x2048 .f32) : View.canon (codePieces x0 x1 x2 x3 x4 x5) = codeB x0 x1 x2 x3 x4 x5 := by
  funext y
  idx_vars y
  obtain rfl := Subsingleton.elim y0 0
  unfold codePieces
  canon_tiles z h
  all_goals
    idx_vars z
    obtain rfl := Subsingleton.elim z0 0
    obtain rfl := Subsingleton.elim z1 0
    simp only [Fin.isValue, Fin.val_zero, add_zero] at h1
    have hy := codeB_at x0 x1 x2 x3 x4 x5
    refine Eq.trans ?_ (hy ⟨y2.val / 128, by omega⟩ y1 z2 y2 (by show y2.val = 128 * (y2.val / 128) + z2.val; omega)).symm
    rw [h1]
    exact congrArg (fun q => codesV (sub x0 q) x1 x2 x3 x4 x5 _ (ix3 (n0 := 1) (n1 := 1) (n2 := 128) 0 0 z2)) (Fin.ext (by simp only [Fin.isValue, Fin.val_zero, Fin.val_one, Fin.val_two, Fin.coe_ofNat_eq_mod]; omega))

theorem out_A_6 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : cond0_0 i) (hc1 : ¬cond0_1 i)
    (x0 : Vec F S1x64x512 .f32) (x1 : Vec F S8x2048x64 .f32) (x2 x3 x4 : Vec F S8x2048x64 .bf16) (x5 : Vec F S8x2048 .f32) :
    out0_A_6 c i arg2 harg2 arg3 harg3 arg4 harg4 arg5 harg5 arg6 harg6 arg7 harg7 arg8 harg8 arg9 harg9 arg10 harg10 hc0 hc1 x0 x1 x2 x3 x4 x5 = totB x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5), pieces_A_6, canon_tot]

theorem out_A_7 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : cond0_0 i) (hc1 : ¬cond0_1 i)
    (x0 : Vec F S1x64x512 .f32) (x1 : Vec F S8x2048x64 .f32) (x2 x3 x4 : Vec F S8x2048x64 .bf16) (x5 : Vec F S8x2048 .f32) :
    out0_A_7 c i arg2 harg2 arg3 harg3 arg4 harg4 arg5 harg5 arg6 harg6 arg7 harg7 arg8 harg8 arg9 harg9 arg10 harg10 hc0 hc1 x0 x1 x2 x3 x4 x5 = codeB x0 x1 x2 x3 x4 x5 := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5), pieces_A_7, canon_code]

theorem out_B_6 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : ¬cond0_1 i)
    (x0 : Vec F S1x64x512 .f32) (x1 : Vec F S8x2048x64 .f32) (x2 x3 x4 : Vec F S8x2048x64 .bf16) (x5 : Vec F S8x2048 .f32) (xo8 : Vec F S1x1 .f32) :
    out0_B_6 c i arg2 harg2 arg3 harg3 arg4 harg4 arg5 harg5 arg6 harg6 arg7 harg7 arg8 harg8 arg9 harg9 arg10 harg10 hc0 hc1 x0 x1 x2 x3 x4 x5 xo8 = totB x0 x1 x2 x3 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xo8), pieces_B_6, canon_tot]

theorem out_B_7 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : ¬cond0_1 i)
    (x0 : Vec F S1x64x512 .f32) (x1 : Vec F S8x2048x64 .f32) (x2 x3 x4 : Vec F S8x2048x64 .bf16) (x5 : Vec F S8x2048 .f32) (xo8 : Vec F S1x1 .f32) :
    out0_B_7 c i arg2 harg2 arg3 harg3 arg4 harg4 arg5 harg5 arg6 harg6 arg7 harg7 arg8 harg8 arg9 harg9 arg10 harg10 hc0 hc1 x0 x1 x2 x3 x4 x5 xo8 = codeB x0 x1 x2 x3 x4 x5 := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 x5 xo8), pieces_B_7, canon_code]

theorem out_C_6 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : cond0_1 i)
    (x0 : Vec F S1x64x512 .f32) (x1 : Vec F S8x2048x64 .f32) (x2 x3 x4 : Vec F S8x2048x64 .bf16) (x5 : Vec F S8x2048 .f32) (xo8 : Vec F S1x1 .f32) :
    out0_C_6 c i arg2 harg2 arg3 harg3 arg4 harg4 arg5 harg5 arg6 harg6 arg7 harg7 arg8 harg8 arg9 harg9 arg10 harg10 hc0 hc1 x0 x1 x2 x3 x4 x5 xo8 = totB x0 x1 x2 x3 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xo8), pieces_C_6, canon_tot]

theorem out_C_7 (c : Dev nD) (i : grid0.Coords) (arg2 : Memref sig .tc .vmem S1x64x512 .f32) (harg2 : arg2.IsWhole) (arg3 : Memref sig .tc .vmem S8x2048x64 .f32) (harg3 : arg3.IsWhole) (arg4 : Memref sig .tc .vmem S8x2048x64 .bf16) (harg4 : arg4.IsWhole) (arg5 : Memref sig .tc .vmem S8x2048x64 .bf16) (harg5 : arg5.IsWhole) (arg6 : Memref sig .tc .vmem S8x2048x64 .bf16) (harg6 : arg6.IsWhole) (arg7 : Memref sig .tc .vmem S8x2048 .f32) (harg7 : arg7.IsWhole) (arg8 : Memref sig .tc .vmem S1x64x512 .f32) (harg8 : arg8.IsWhole) (arg9 : Memref sig .tc .vmem S1x8x512 .i32) (harg9 : arg9.IsWhole) (arg10 : Memref sig .tc .vmem S1x1 .f32) (harg10 : arg10.IsWhole) (hc0 : ¬cond0_0 i) (hc1 : cond0_1 i)
    (x0 : Vec F S1x64x512 .f32) (x1 : Vec F S8x2048x64 .f32) (x2 x3 x4 : Vec F S8x2048x64 .bf16) (x5 : Vec F S8x2048 .f32) (xo8 : Vec F S1x1 .f32) :
    out0_C_7 c i arg2 harg2 arg3 harg3 arg4 harg4 arg5 harg5 arg6 harg6 arg7 harg7 arg8 harg8 arg9 harg9 arg10 harg10 hc0 hc1 x0 x1 x2 x3 x4 x5 xo8 = codeB x0 x1 x2 x3 x4 x5 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xo8), pieces_C_7, canon_code]

end Cert.KernelIdeal.Tile
-- ==== Proof.Spec.lean ====
/-
  Residual vector quantization of one column of 64 numbers, over the extended reals: the squared distances of a column
  to the rows of a codebook, the first row at the least distance, the residual and the sum of the selected rows after
  each codebook; and the least keys by which the first row is found.
-/
module

public import Idealize.ShloMosaic.PureOps.Ideal
public import Idealize.ShloMosaic.Lib.IdealHost
public import Idealize.ShloMosaic.Lib.Pointwise
public import Mathlib.Data.Finset.Fold

@[expose] public section

set_option maxRecDepth 16384

noncomputable section

namespace Rvq

open Idealize.ShloMosaic

/-- The squared distance of `r` to row `k`, by the expanded square. -/
def dist (r : Fin 64 → EReal) (B : Fin 2048 → Fin 64 → EReal) (k : Fin 2048) : EReal :=
  (∑ d, r d * r d) - 2 * (∑ d, r d * B k d) + ∑ d, B k d * B k d

theorem exists_least (D : Fin 2048 → EReal) : (Finset.univ.filter fun k => ∀ l, D k ≤ D l).Nonempty := by
  obtain ⟨k, _, hk⟩ := Finset.exists_min_image Finset.univ D ⟨0, Finset.mem_univ 0⟩
  exact ⟨k, Finset.mem_filter.2 ⟨Finset.mem_univ k, fun l => hk l (Finset.mem_univ l)⟩⟩

/-- The first index of a least value. -/
def first (D : Fin 2048 → EReal) : Fin 2048 := (Finset.univ.filter fun k => ∀ l, D k ≤ D l).min' (exists_least D)

theorem first_le (D : Fin 2048 → EReal) (l : Fin 2048) : D (first D) ≤ D l :=
  (Finset.mem_filter.1 (Finset.min'_mem _ (exists_least D))).2 l

theorem first_min (D : Fin 2048 → EReal) (k : Fin 2048) (h : ∀ l, D k ≤ D l) : first D ≤ k :=
  Finset.min'_le _ _ (Finset.mem_filter.2 ⟨Finset.mem_univ k, h⟩)

theorem first_eq (D : Fin 2048 → EReal) (k : Fin 2048) (h : ∀ l, D k ≤ D l) (h' : ∀ l, D l = D k → k ≤ l) : first D = k :=
  le_antisymm (first_min D k h) (h' _ (le_antisymm (first_le D k) (h _)))

/-- The residual before codebook `i`. -/
def res (v : Fin 64 → EReal) (B : ℕ → Fin 2048 → Fin 64 → EReal) : ℕ → Fin 64 → EReal
  | 0 => v
  | i + 1 => fun d => res v B i d - B i (first (dist (res v B i) (B i))) d

/-- The code at codebook `i`. -/
def code (v : Fin 64 → EReal) (B : ℕ → Fin 2048 → Fin 64 → EReal) (i : ℕ) : Fin 2048 := first (dist (res v B i) (B i))

/-- The sum of the selected rows before codebook `i`. -/
def tot (v : Fin 64 → EReal) (B : ℕ → Fin 2048 → Fin 64 → EReal) : ℕ → Fin 64 → EReal
  | 0 => fun _ => 0
  | i + 1 => fun d => tot v B i d + B i (code v B i) d

theorem res_succ (v : Fin 64 → EReal) (B : ℕ → Fin 2048 → Fin 64 → EReal) (i : ℕ) (d : Fin 64) :
    res v B (i + 1) d = res v B i d - B i (code v B i) d := rfl

theorem tot_succ (v : Fin 64 → EReal) (B : ℕ → Fin 2048 → Fin 64 → EReal) (i : ℕ) (d : Fin 64) :
    tot v B (i + 1) d = tot v B i d + B i (code v B i) d := rfl

/-! ## The least key -/

/-- The key of an index: itself where the value is least, `4096` elsewhere. -/
def key (D : Fin 2048 → EReal) (m : EReal) (k : Fin 2048) : EReal := if D k = m then ((k.val : ℝ) : EReal) else ((4096 : ℝ) : EReal)

theorem fold_least (D : Fin 2048 → EReal) : Finset.univ.fold min ⊤ D = D (first D) := by
  refine le_antisymm ?_ ?_
  · exact (Finset.fold_min_le _).2 (Or.inr ⟨first D, Finset.mem_univ _, le_rfl⟩)
  · exact (Finset.le_fold_min _).2 ⟨le_top, fun l _ => first_le D l⟩

theorem key_first (D : Fin 2048 → EReal) : key D (D (first D)) (first D) = (((first D).val : ℝ) : EReal) := if_pos rfl

theorem le_key (D : Fin 2048 → EReal) (k : Fin 2048) : (((first D).val : ℝ) : EReal) ≤ key D (D (first D)) k := by
  unfold key
  split
  · rename_i h
    have hk : first D ≤ k := first_min D k fun l => h ▸ first_le D l
    exact EReal.coe_le_coe_iff.2 (Nat.cast_le.2 hk)
  · refine EReal.coe_le_coe_iff.2 ?_
    have : (first D).val ≤ 4096 := by omega
    exact_mod_cast this

theorem fold_key (D : Fin 2048 → EReal) : Finset.univ.fold min ⊤ (key D (D (first D))) = (((first D).val : ℝ) : EReal) := by
  refine le_antisymm ?_ ?_
  · exact (Finset.fold_min_le _).2 (Or.inr ⟨first D, Finset.mem_univ _, le_of_eq (key_first D)⟩)
  · exact (Finset.le_fold_min _).2 ⟨le_top, fun l _ => le_key D l⟩

theorem key_eq_iff (D : Fin 2048 → EReal) (k : Fin 2048) :
    key D (D (first D)) k = (((first D).val : ℝ) : EReal) ↔ k = first D := by
  constructor
  · intro h
    unfold key at h
    split at h
    · have h2 : ((k.val : ℕ) : ℝ) = ((first D).val : ℝ) := EReal.coe_injective h
      exact Fin.ext (Nat.cast_injective h2)
    · have h2 : (4096 : ℝ) = ((first D).val : ℝ) := EReal.coe_injective h
      have h3 : (4096 : ℕ) = (first D).val := by exact_mod_cast h2
      omega
  · rintro rfl; exact key_first D

/-! ## Constants -/

theorem ofBits_top : Ideal.ofBits .f32 0x7F800000#32 = ⊤ := by
  simp [Ideal.ofBits, Ideal.ieee]

theorem ofBits_4096 : Ideal.ofBits .f32 0x45800000#32 = ((4096 : ℝ) : EReal) := by
  simp [Ideal.ofBits, Ideal.ieee, -EReal.coe_mul]; norm_num

theorem ofBits_2 : Ideal.ofBits .f32 0x40000000#32 = 2 := by
  rw [show (2 : EReal) = ((2 : ℝ) : EReal) by norm_cast]
  simp [Ideal.ofBits, Ideal.ieee, -EReal.coe_mul]; norm_num

theorem ofBits_small : Ideal.ofBits .f32 0x34800000#32 = ((1 / 4194304 : ℝ) : EReal) := by
  simp [Ideal.ofBits, Ideal.ieee, -EReal.coe_mul]; norm_num

theorem ofBits_large : Ideal.ofBits .f32 0x4A800000#32 = ((4194304 : ℝ) : EReal) := by
  simp [Ideal.ofBits, Ideal.ieee, -EReal.coe_mul]; norm_num

end Rvq
-- ==== Proof.TileIdeal.lean ====
/-
  One sub-tile's computation over the extended reals, element by element.
-/
module

public import proofs.«01_k».proof.Proof.Tile
public import proofs.«01_k».proof.Proof.Spec

@[expose] public section

set_option maxRecDepth 16384

noncomputable section

open Idealize.ShloMosaic Idealize.ShloMosaic.TcCoe Idealize.SL.Sem

namespace Cert.KernelIdeal.Tile

open Cert.KernelIdeal Cert.KernelIdeal.Gen

/-! ## Integers as extended reals -/

theorem sitofp_ofNat (n : ℕ) (h : n < 2048) : FloatOps.sitofp (F := Ideal) .f32 (BitVec.ofNat 32 n) = ((n : ℝ) : EReal) := by
  show (((BitVec.ofNat 32 n).toInt : ℝ) : EReal) = _
  have e : (BitVec.ofNat 32 n).toInt = (n : ℤ) := by
    have e1 : (BitVec.ofNat 32 n).toNat = n := by rw [BitVec.toNat_ofNat]; omega
    rw [BitVec.toInt_eq_toNat_cond, e1, if_pos (by omega)]
  rw [e, Int.cast_natCast]

theorem fptosi_natCast (n : ℕ) (h : n < 2048) : FloatOps.fptosi (F := Ideal) (φ := .f32) 32 ((n : ℝ) : EReal) = BitVec.ofNat 32 n := by
  show Ideal.fptosi 32 ((n : ℝ) : EReal) = _
  unfold Ideal.fptosi
  rw [Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by norm_num; omega]
  rw [BitVec.ofInt_natCast]

theorem sitofp_bit (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

/-! ## The operations of a step -/

theorem colsV_at (v : Vec Ideal S1x64x128 .f32) (t : Fin 128) (d : Fin 64) :
    colsV v (ix2 t d) = v (ix3 (n0 := 1) (n1 := 64) (n2 := 128) 0 d t) := by
  pointwise [colsV]

theorem sqV_at (r : FVec Ideal S128x64 .f32) (t : Fin 128) (u : Fin 1) :
    sqV r (ix2 t u) = ∑ d : Fin 64, r (ix2 t d) * r (ix2 t d) := by
  pointwise [sqV]

theorem distV_at (r : FVec Ideal S128x64 .f32) (cb : Vec Ideal S1x2048x64 .f32) (cs : Vec Ideal S1x2048 .f32) (t : Fin 128)
    (v : Fin 64 → EReal) (B : Fin 2048 → Fin 64 → EReal) (hr : ∀ d, r (ix2 t d) = v d)
    (hB : ∀ k d, cb (ix3 (n0 := 1) (n1 := 2048) (n2 := 64) 0 k d) = B k d)
    (hs : ∀ k, cs (ix2 (n0 := 1) (n1 := 2048) 0 k) = ∑ d, B k d * B k d) (k : Fin 2048) :
    distV r (sqV r) cb cs (ix2 t k) = Rvq.dist v B k := by
  pointwise [distV, sqV]
  simp only [hr, hB, hs, Rvq.ofBits_2]
  rfl

theorem keysV_at (D : FVec Ideal S128x2048 .f32) (t : Fin 128) (f : Fin 2048 → EReal) (hf : ∀ k, D (ix2 t k) = f k) (k : Fin 2048) :
    keysV D (ix2 t k) = Rvq.key f (f (Rvq.first f)) k := by
  pointwise [keysV, firstV, lanesV]
  rw [Rvq.ofBits_top, Rvq.ofBits_4096, sitofp_ofNat _ k.isLt]
  simp only [hf]
  rw [Rvq.fold_least]
  rfl

theorem firstV_at (D : FVec Ideal S128x2048 .f32) (t : Fin 128) (f : Fin 2048 → EReal)
    (hf : ∀ k, D (ix2 t k) = Rvq.key f (f (Rvq.first f)) k) (u : Fin 1) :
    firstV D (ix2 t u) = (((Rvq.first f).val : ℝ) : EReal) := by
  pointwise [firstV]
  rw [Rvq.ofBits_top]
  simp only [hf]
  exact Rvq.fold_key f

theorem codeV_at (I : FVec Ideal S128x1 .f32) (t : Fin 128) (k : Fin 2048) (h : I (ix2 t 0) = ((k.val : ℝ) : EReal)) :
    codeV I (ix3 (n0 := 1) (n1 := 1) (n2 := 128) 0 0 t) = BitVec.ofNat 32 k.val := by
  pointwise [codeV]
  rw [h]
  exact fptosi_natCast k.val k.isLt

theorem pickV_at (D : FVec Ideal S128x2048 .f32) (I : FVec Ideal S128x1 .f32) (t : Fin 128) (f : Fin 2048 → EReal)
    (hD : ∀ k, D (ix2 t k) = Rvq.key f (f (Rvq.first f)) k) (hI : I (ix2 t 0) = (((Rvq.first f).val : ℝ) : EReal)) (k : Fin 2048) :
    pickV D I (ix2 t k) = if k = Rvq.first f then (1 : EReal) else 0 := by
  pointwise [pickV]
  rw [hD, hI, sitofp_bit]
  exact if_congr (Rvq.key_eq_iff f k) rfl rfl

theorem prodV_at (O : FVec Ideal S128x2048 .bf16) (h : Vec Ideal S1x2048x64 .bf16) (t : Fin 128) (n : Fin 2048)
    (hO : ∀ k, O (ix2 t k) = if k = n then (1 : EReal) else 0) (d : Fin 64) :
    prodV O h (ix2 t d) = h (ix3 (n0 := 1) (n1 := 2048) (n2 := 64) 0 n d) := by
  pointwise [prodV]
  simp only [hO]
  rw [Finset.sum_eq_single n]
  · rw [if_pos rfl]; exact one_mul _
  · intro k _ hk; rw [if_neg hk]; exact zero_mul _
  · intro h'; exact absurd (Finset.mem_univ n) h'

theorem lossV_at (D : FVec Ideal S128x1 .f32) : lossV D = ∑ t : Fin 128, D (ix2 t 0) := by
  pointwise [lossV]
  exact Finset.sum_congr rfl fun t _ => Fin.sum_univ_one _

theorem backV_at (D : FVec Ideal S128x64 .f32) (t : Fin 128) (d : Fin 64) :
    backV D (ix3 (n0 := 1) (n1 := 64) (n2 := 128) 0 d t) = D (ix2 t d) := by
  pointwise [backV]

/-! ## A step -/

section Step

variable (r : FVec Ideal S128x64 .f32) (cb : Vec Ideal S1x2048x64 .f32) (h m l : Vec Ideal S1x2048x64 .bf16) (cs : Vec Ideal S1x2048 .f32)
variable (t : Fin 128) (v : Fin 64 → EReal) (B : Fin 2048 → Fin 64 → EReal) (hr : ∀ d, r (ix2 t d) = v d)
variable (hB : ∀ k d, cb (ix3 (n0 := 1) (n1 := 2048) (n2 := 64) 0 k d) = B k d)
variable (hs : ∀ k, cs (ix2 (n0 := 1) (n1 := 2048) 0 k) = ∑ d, B k d * B k d)
include hr hB hs

theorem stepKeys_at (k : Fin 2048) :
    stepKeys r cb cs (ix2 t k) = Rvq.key (Rvq.dist v B) (Rvq.dist v B (Rvq.first (Rvq.dist v B))) k :=
  keysV_at _ t _ (fun k => distV_at r cb cs t v B hr hB hs k) k

theorem stepFirst_at (u : Fin 1) : firstV (stepKeys r cb cs) (ix2 t u) = (((Rvq.first (Rvq.dist v B)).val : ℝ) : EReal) :=
  firstV_at _ t _ (stepKeys_at r cb cs t v B hr hB hs) u

variable (hh : ∀ k d, h (ix3 (n0 := 1) (n1 := 2048) (n2 := 64) 0 k d) = B k d)
variable (hm : ∀ k d, m (ix3 (n0 := 1) (n1 := 2048) (n2 := 64) 0 k d) = 0)
variable (hl : ∀ k d, l (ix3 (n0 := 1) (n1 := 2048) (n2 := 64) 0 k d) = 0)
include hh hm hl

theorem stepQ_at (d : Fin 64) : stepQ r cb h m l cs (ix2 t d) = B (Rvq.first (Rvq.dist v B)) d := by
  have hO := pickV_at _ _ t _ (stepKeys_at r cb cs t v B hr hB hs) (stepFirst_at r cb cs t v B hr hB hs 0)
  show (prodV _ h (ix2 t d) + prodV _ m (ix2 t d)) + prodV _ l (ix2 t d) = _
  rw [prodV_at _ h t _ hO, prodV_at _ m t _ hO, prodV_at _ l t _ hO, hh, hm, hl, add_zero, add_zero]

end Step

/-! ## The eight steps -/

section Steps

variable (x : Vec Ideal S1x64x128 .f32) (x1 : Vec Ideal S8x2048x64 .f32) (x2 x3 x4 : Vec Ideal S8x2048x64 .bf16) (x5 : Vec Ideal S8x2048 .f32)
variable (v : Fin 128 → Fin 64 → EReal) (B : ℕ → Fin 2048 → Fin 64 → EReal)

/-- The input blocks hold the columns `v`, the codebooks `B`, the one half of them in one piece, and the rows' squared lengths. -/
structure Holds : Prop where
  hv : ∀ t d, x (ix3 (n0 := 1) (n1 := 64) (n2 := 128) 0 d t) = v t d
  h1 : ∀ (i : Fin 8) k d, x1 (ix3 (n0 := 8) (n1 := 2048) (n2 := 64) i k d) = B i.val k d
  h2 : ∀ (i : Fin 8) k d, x2 (ix3 (n0 := 8) (n1 := 2048) (n2 := 64) i k d) = B i.val k d
  h3 : ∀ (i : Fin 8) k d, x3 (ix3 (n0 := 8) (n1 := 2048) (n2 := 64) i k d) = 0
  h4 : ∀ (i : Fin 8) k d, x4 (ix3 (n0 := 8) (n1 := 2048) (n2 := 64) i k d) = 0
  h5 : ∀ (i : Fin 8) k, x5 (ix2 (n0 := 8) (n1 := 2048) i k) = ∑ d, B i.val k d * B i.val k d
  hp : ∀ i, B (i % 8) = B i

variable {x x1 x2 x3 x4 x5 v B}

theorem Holds.step (H : Holds x x1 x2 x3 x4 x5 v B) (i : ℕ) (r : FVec Ideal S128x64 .f32) (t : Fin 128) (w : Fin 64 → EReal)
    (hr : ∀ d, r (ix2 t d) = w d) (d : Fin 64) :
    stepQ (F := Ideal) r (bookV (F := Ideal) (φ := .f32) x1 i) (bookV (F := Ideal) (φ := .bf16) x2 i) (bookV (F := Ideal) (φ := .bf16) x3 i)
      (bookV (F := Ideal) (φ := .bf16) x4 i) (lensV (F := Ideal) x5 i) (ix2 t d) = B i (Rvq.first (Rvq.dist w (B i))) d := by
  refine stepQ_at r _ _ _ _ _ t w (B i) hr ?_ ?_ ?_ ?_ ?_ d
  · intro k d; exact (H.h1 ⟨i % 8, _⟩ k d).trans (by rw [← H.hp i])
  · intro k; exact (H.h5 ⟨i % 8, _⟩ k).trans (by rw [← H.hp i])
  · intro k d; exact (H.h2 ⟨i % 8, _⟩ k d).trans (by rw [← H.hp i])
  · intro k d; exact H.h3 ⟨i % 8, _⟩ k d
  · intro k d; exact H.h4 ⟨i % 8, _⟩ k d

theorem Holds.res (H : Holds x x1 x2 x3 x4 x5 v B) (t : Fin 128) : ∀ (i : ℕ) (d : Fin 64),
    resV x x1 x2 x3 x4 x5 i (ix2 t d) = Rvq.res (v t) B i d
  | 0, d => (colsV_at x t d).trans (H.hv t d)
  | i + 1, d => by
    show resV x x1 x2 x3 x4 x5 i (ix2 t d) - stepQ _ _ _ _ _ _ (ix2 t d) = _
    rw [H.step i _ t _ (H.res t i) d, H.res t i d]
    rfl

theorem Holds.tot (H : Holds x x1 x2 x3 x4 x5 v B) (t : Fin 128) : ∀ (i : ℕ) (d : Fin 64),
    totV x x1 x2 x3 x4 x5 i (ix2 t d) = Rvq.tot (v t) B i d
  | 0, d => Ideal.ofBits_zero_f32
  | i + 1, d => by
    show totV x x1 x2 x3 x4 x5 i (ix2 t d) + stepQ _ _ _ _ _ _ (ix2 t d) = _
    rw [H.step i _ t _ (H.res t i) d, H.tot t i d]
    rfl

theorem Holds.codes (H : Holds x x1 x2 x3 x4 x5 v B) (t : Fin 128) (i : ℕ) :
    codesV x x1 x2 x3 x4 x5 i (ix3 (n0 := 1) (n1 := 1) (n2 := 128) 0 0 t) = BitVec.ofNat 32 (Rvq.code (v t) B i).val := by
  refine codeV_at _ t (Rvq.code (v t) B i) ?_
  refine stepFirst_at _ _ _ t _ (B i) (H.res t i) ?_ ?_ 0
  · intro k d; exact (H.h1 ⟨i % 8, _⟩ k d).trans (by rw [← H.hp i])
  · intro k; exact (H.h5 ⟨i % 8, _⟩ k).trans (by rw [← H.hp i])

theorem Holds.back (H : Holds x x1 x2 x3 x4 x5 v B) (t : Fin 128) (d : Fin 64) :
    backV (totV x x1 x2 x3 x4 x5 8) (ix3 (n0 := 1) (n1 := 64) (n2 := 128) 0 d t) = Rvq.tot (v t) B 8 d :=
  (backV_at _ t d).trans (H.tot t 8 d)

theorem Holds.loss (H : Holds x x1 x2 x3 x4 x5 v B) (i : ℕ) :
    lossV (sqV (resV x x1 x2 x3 x4 x5 i)) = ∑ t, ∑ d, Rvq.res (v t) B i d * Rvq.res (v t) B i d := by
  rw [lossV_at]
  refine Finset.sum_congr rfl fun t _ => ?_
  rw [sqV_at]
  exact Finset.sum_congr rfl fun d _ => by rw [H.res t i d]

end Steps

end Cert.KernelIdeal.Tile
-- ==== Proof.Arrays.lean ====
/-
  The arrays the region leaves, element by element.
-/
module

public import proofs.«01_k».proof.Proof.Blocks
public import proofs.«01_k».proof.Proof.TileIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Tile

theorem idx_val : ∀ t : Fin cfg0.N, win0_0.index t = ![t.val / 8, 0, t.val % 8]
    ∧ win0_1.index t = ![0, 0, 0] ∧ win0_2.index t = ![0, 0, 0] ∧ win0_3.index t = ![0, 0, 0] ∧ win0_4.index t = ![0, 0, 0]
    ∧ win0_5.index t = ![0, 0] ∧ win0_6.index t = ![t.val / 8, 0, t.val % 8] ∧ win0_7.index t = ![t.val / 8, 0, t.val % 8] ∧ win0_8.index t = ![0, 0] :=
  (by decide +kernel : ∀ t : Fin grid0.N, _)

variable (m : (ℓ : Loc nD τ sig) → Buf (Elt Ideal) ℓ) (c : Dev nD)

/-- The input columns. -/
abbrev argX : Vec Ideal S16x64x4096 .f32 := m ((c : Thread nD τ).loc main_arg0)

/-- The codebooks. -/
abbrev argC : Vec Ideal S8x2048x64 .f32 := m ((c : Thread nD τ).loc main_arg1)

/-! ## The arrays made before the region -/

theorem host_0 : (V (F := Ideal) m c main_v0 : Vec Ideal S8x2048x64 .bf16) = fun j => argC m c j := by
  simp only [V, V0, List.flatten_cons, List.flatten_nil, List.append_nil]
  after_results
  funext j
  pointwise

theorem host_3 : (V (F := Ideal) m c main_v3 : Vec Ideal S8x2048x64 .bf16) = fun j => argC m c j - argC m c j := by
  simp only [V, V0, List.flatten_cons, List.flatten_nil, List.append_nil]
  after_results
  funext j
  pointwise

theorem host_6 : (V (F := Ideal) m c main_v6 : Vec Ideal S8x2048x64 .bf16) = fun j => (argC m c j - argC m c j) - (argC m c j - argC m c j) := by
  simp only [V, V0, List.flatten_cons, List.flatten_nil, List.append_nil]
  after_results
  funext j
  pointwise

theorem host_8 (i : Fin 8) (k : Fin 2048) : (V (F := Ideal) m c main_v8 : Vec Ideal S8x2048 .f32) (ix2 i k) = ∑ d : Fin 64, argC m c (ix3 i k d) * argC m c (ix3 i k d) := by
  simp only [V, V0, List.flatten_cons, List.flatten_nil, List.append_nil]
  after_results
  pointwise

/-! ## The blocks -/

theorem block_0 (t : Fin cfg0.N) (d : Fin 64) (k : Fin 512) :
    (iblk (F := Ideal) m c 0 t : Vec Ideal S1x64x512 .f32) (ix3 (n0 := 1) (n1 := 64) (n2 := 512) 0 d k) = argX m c (ix3 (n0 := 16) (n1 := 64) (n2 := 4096) ⟨t.val / 8, by have : t.val < 128 := t.isLt; omega⟩ d ⟨t.val % 8 * 512 + k.val, by omega⟩) := by
  blk_ext [iblk, V, idx_val t]

theorem block_1 (t : Fin cfg0.N) : (iblk (F := Ideal) m c 1 t : Vec Ideal S8x2048x64 .f32) = argC m c := by
  funext j
  blk_ext [iblk, V, idx_val t]

theorem block_2 (t : Fin cfg0.N) : (iblk (F := Ideal) m c 2 t : Vec Ideal S8x2048x64 .bf16) = V (F := Ideal) m c main_v0 := by
  funext j
  blk_ext [iblk, idx_val t]

theorem block_3 (t : Fin cfg0.N) : (iblk (F := Ideal) m c 3 t : Vec Ideal S8x2048x64 .bf16) = V (F := Ideal) m c main_v3 := by
  funext j
  blk_ext [iblk, idx_val t]

theorem block_4 (t : Fin cfg0.N) : (iblk (F := Ideal) m c 4 t : Vec Ideal S8x2048x64 .bf16) = V (F := Ideal) m c main_v6 := by
  funext j
  blk_ext [iblk, idx_val t]

theorem block_5 (t : Fin cfg0.N) : (iblk (F := Ideal) m c 5 t : Vec Ideal S8x2048 .f32) = V (F := Ideal) m c main_v8 := by
  funext j
  blk_ext [iblk, idx_val t]

end Cert.KernelIdeal.Arrays
-- ==== Proof.Result.lean ====
/-
  The three arrays that the region leaves, over the extended reals.
-/
module

public import proofs.«01_k».proof.Proof.Arrays

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Tile

variable (m : (ℓ : Loc nD τ sig) → Buf (Elt Ideal) ℓ) (c : Dev nD)

/-- Column `k` of image `b`. -/
def colX (b : Fin 16) (k : Fin 4096) : Fin 64 → EReal := fun d => argX m c (ix3 b d k)

/-- The codebooks, by number. -/
def bookC (i : ℕ) : Fin 2048 → Fin 64 → EReal := fun k d => argC m c (ix3 (n0 := 8) (n1 := 2048) (n2 := 64) ⟨i % 8, Nat.mod_lt _ (by decide)⟩ k d)

theorem pt_lt (t : Fin cfg0.N) : t.val < 128 := t.isLt

/-- The image of grid point `t`. -/
def ptB (t : Fin cfg0.N) : Fin 16 := ⟨t.val / 8, by have := pt_lt t; omega⟩

/-- The column of grid point `t` at place `k` of its block. -/
def ptK (t : Fin cfg0.N) (k : Fin 512) : Fin 4096 := ⟨t.val % 8 * 512 + k.val, by omega⟩

/-- Place `u` of sub-tile `s`. -/
def inBlock (s : Fin 4) (u : Fin 128) : Fin 512 := ⟨128 * s.val + u.val, by omega⟩

/-- All codebook entries are real. -/
def RealC : Prop := ∀ j, ∃ r : ℝ, argC m c j = (r : EReal)

variable {m c}

theorem RealC.sub_self (hf : RealC m c) (j) : argC m c j - argC m c j = 0 := by
  obtain ⟨r, hr⟩ := hf j
  rw [hr, ← EReal.coe_sub, _root_.sub_self, EReal.coe_zero]

theorem holds (hf : RealC m c) (t : Fin cfg0.N) (s : Fin 4) :
    Holds (sub (F := Ideal) (iblk (F := Ideal) m c 0 t) s) (iblk (F := Ideal) m c 1 t) (iblk (F := Ideal) m c 2 t) (iblk (F := Ideal) m c 3 t)
      (iblk (F := Ideal) m c 4 t) (iblk (F := Ideal) m c 5 t) (fun u => colX m c (ptB t) (ptK t (inBlock s u))) (bookC m c) where
  hv u d := block_0 m c t d (inBlock s u)
  h1 i k d := by
    rw [block_1]
    unfold bookC
    congr 2
    exact Fin.ext (Nat.mod_eq_of_lt i.isLt).symm
  h2 i k d := by
    rw [block_2, host_0]
    unfold bookC
    show argC m c _ = _
    congr 2
    exact Fin.ext (Nat.mod_eq_of_lt i.isLt).symm
  h3 i k d := by
    rw [block_3, host_3]
    exact hf.sub_self _
  h4 i k d := by
    rw [block_4, host_6]
    show (argC m c _ - argC m c _) - (argC m c _ - argC m c _) = 0
    rw [hf.sub_self, _root_.sub_zero]
  h5 i k := by
    rw [block_5, host_8]
    unfold bookC
    have e : (⟨i.val % 8, Nat.mod_lt _ (by decide)⟩ : Fin 8) = i := Fin.ext (Nat.mod_eq_of_lt i.isLt)
    rw [e]
  hp i := by
    unfold bookC
    simp only [Nat.mod_mod]

/-- Every place of a block lies in one sub-tile. -/
theorem inBlock_split (k : Fin 512) : ∃ (s : Fin 4) (u : Fin 128), k = inBlock s u :=
  ⟨⟨k.val / 128, by omega⟩, ⟨k.val % 128, by omega⟩, Fin.ext (by show k.val = 128 * (k.val / 128) + k.val % 128; omega)⟩

theorem totB_ideal (hf : RealC m c) (t : Fin cfg0.N) (d : Fin 64) (k : Fin 512) :
    totB (F := Ideal) (iblk (F := Ideal) m c 0 t) (iblk (F := Ideal) m c 1 t) (iblk (F := Ideal) m c 2 t) (iblk (F := Ideal) m c 3 t)
      (iblk (F := Ideal) m c 4 t) (iblk (F := Ideal) m c 5 t) (ix3 (n0 := 1) (n1 := 64) (n2 := 512) 0 d k)
      = Rvq.tot (colX m c (ptB t) (ptK t k)) (bookC m c) 8 d := by
  obtain ⟨s, u, rfl⟩ := inBlock_split k
  rw [totB_at _ _ _ _ _ _ s d u _ rfl]
  exact (holds hf t s).back u d

theorem codeB_ideal (hf : RealC m c) (t : Fin cfg0.N) (i : Fin 8) (k : Fin 512) :
    codeB (F := Ideal) (iblk (F := Ideal) m c 0 t) (iblk (F := Ideal) m c 1 t) (iblk (F := Ideal) m c 2 t) (iblk (F := Ideal) m c 3 t)
      (iblk (F := Ideal) m c 4 t) (iblk (F := Ideal) m c 5 t) (ix3 (n0 := 1) (n1 := 8) (n2 := 512) 0 i k)
      = BitVec.ofNat 32 (Rvq.code (colX m c (ptB t) (ptK t k)) (bookC m c) i.val).val := by
  obtain ⟨s, u, rfl⟩ := inBlock_split k
  rw [codeB_at _ _ _ _ _ _ s i u _ rfl]
  exact (holds hf t s).codes u i.val

/-- The squared residual length of column `k` of image `b` before codebook `i`. -/
def sq (m : (ℓ : Loc nD τ sig) → Buf (Elt Ideal) ℓ) (c : Dev nD) (i : ℕ) (b : Fin 16) (k : Fin 4096) : EReal :=
  ∑ d, Rvq.res (colX m c b k) (bookC m c) i d * Rvq.res (colX m c b k) (bookC m c) i d

/-- What point `t` adds to the loss for codebook `i`. -/
def ptSq (m : (ℓ : Loc nD τ sig) → Buf (Elt Ideal) ℓ) (c : Dev nD) (i : ℕ) (t : Fin cfg0.N) : EReal :=
  ∑ s : Fin 4, ∑ u : Fin 128, sq m c (i + 1) (ptB t) (ptK t (inBlock s u))

theorem sumV_ideal (hf : RealC m c) (t : Fin cfg0.N) : ∀ n : ℕ,
    sumV (F := Ideal) (iblk (F := Ideal) m c 0 t) (iblk (F := Ideal) m c 1 t) (iblk (F := Ideal) m c 2 t) (iblk (F := Ideal) m c 3 t)
      (iblk (F := Ideal) m c 4 t) (iblk (F := Ideal) m c 5 t) n = ∑ i ∈ Finset.range n, ptSq m c i t
  | 0 => Ideal.ofBits_zero_f32
  | n + 1 => by
    rw [Finset.sum_range_succ, ← sumV_ideal hf t n]
    show _ + ((((Ideal.ofBits .f32 0x00000000#32 + _) + _) + _) + _) = _
    rw [Ideal.ofBits_zero_f32, zero_add, (holds hf t 0).loss, (holds hf t 1).loss, (holds hf t 2).loss, (holds hf t 3).loss]
    unfold ptSq
    rw [Fin.sum_univ_four]
    rfl

/-- The selected rows' sum, over the whole array. -/
def resultTot (m : (ℓ : Loc nD τ sig) → Buf (Elt Ideal) ℓ) (c : Dev nD) : Vec Ideal S16x64x4096 .f32 := fun y =>
  Rvq.tot (colX m c (y 0) (y 2)) (bookC m c) 8 (y 1)

/-- The codes, over the whole array. -/
def resultCode (m : (ℓ : Loc nD τ sig) → Buf (Elt Ideal) ℓ) (c : Dev nD) : Vec Ideal S16x8x4096 .i32 := fun y =>
  BitVec.ofNat 32 (Rvq.code (colX m c (y 0) (y 2)) (bookC m c) (y 1).val).val

theorem outs_6 (t : Fin cfg0.N) : (outsAt0 (F := Ideal) m c t.val t.isLt).1 = totB (F := Ideal) (iblk (F := Ideal) m c 0 t) (iblk (F := Ideal) m c 1 t)
    (iblk (F := Ideal) m c 2 t) (iblk (F := Ideal) m c 3 t) (iblk (F := Ideal) m c 4 t) (iblk (F := Ideal) m c 5 t) := by
  by_cases h0 : t.val % 128 = 0
  · rw [outsAt0_A m c t h0 (by omega)]; dsimp only; exact out_A_6 (F := Ideal) ..
  · by_cases h1 : t.val % 128 = 127
    · rw [outsAt0_C m c t h0 h1]; dsimp only; exact out_C_6 (F := Ideal) ..
    · rw [outsAt0_B m c t h0 h1]; dsimp only; exact out_B_6 (F := Ideal) ..

theorem outs_7 (t : Fin cfg0.N) : (outsAt0 (F := Ideal) m c t.val t.isLt).2.1 = codeB (F := Ideal) (iblk (F := Ideal) m c 0 t) (iblk (F := Ideal) m c 1 t)
    (iblk (F := Ideal) m c 2 t) (iblk (F := Ideal) m c 3 t) (iblk (F := Ideal) m c 4 t) (iblk (F := Ideal) m c 5 t) := by
  by_cases h0 : t.val % 128 = 0
  · rw [outsAt0_A m c t h0 (by omega)]; dsimp only; exact out_A_7 (F := Ideal) ..
  · by_cases h1 : t.val % 128 = 127
    · rw [outsAt0_C m c t h0 h1]; dsimp only; exact out_C_7 (F := Ideal) ..
    · rw [outsAt0_B m c t h0 h1]; dsimp only; exact out_B_7 (F := Ideal) ..

theorem final_6 (hf : RealC m c) : ((dats (F := Ideal) m 0 c).arrAt 6 (cfgs 0).N : Vec Ideal S16x64x4096 .f32) = resultTot m c := by
  refine (dats m 0 c).arrAt_eq_of_covers 6 _ (by decide +kernel) fun t hf' y => ?_
  blk_simp
  rw [after0_6, outs_6]
  idx_vars y
  obtain rfl : y0 = 0 := Subsingleton.elim _ _
  exact (totB_ideal hf t y1 y2).trans (congrArg (resultTot m c)
    (a₁ := (ix3 (ptB t) y1 (ptK t y2) : S16x64x4096.Idx)) (by blk_ext [idx_val t, ptB, ptK]))

theorem final_7 (hf : RealC m c) : ((dats (F := Ideal) m 0 c).arrAt 7 (cfgs 0).N : Vec Ideal S16x8x4096 .i32) = resultCode m c := by
  refine (dats m 0 c).arrAt_eq_of_covers 7 _ (by decide +kernel) fun t hf' y => ?_
  blk_simp
  rw [after0_7, outs_7]
  idx_vars y
  obtain rfl : y0 = 0 := Subsingleton.elim _ _
  exact (codeB_ideal hf t y1 y2).trans (congrArg (resultCode m c)
    (a₁ := (ix3 (ptB t) y1 (ptK t y2) : S16x8x4096.Idx)) (by blk_ext [idx_val t, ptB, ptK]))

/-! ## The loss -/

theorem outs_A (hf : RealC m c) (t : Fin cfg0.N) (h0 : t.val % 128 = 0) :
    ((outsAt0 (F := Ideal) m c t.val t.isLt).2.2 : Vec Ideal S1x1 .f32) (ix2 0 0) = ∑ i ∈ Finset.range 8, ptSq m c i t := by
  rw [outsAt0_A m c t h0 (by omega)]
  dsimp only
  rw [out_A_8 (F := Ideal), ← sumV_ideal hf t 8]
  show Ideal.ofBits .f32 0#32 + _ = _
  rw [Ideal.ofBits_zero_f32, zero_add]
  rfl

theorem outs_B (hf : RealC m c) (t : Fin cfg0.N) (h0 : ¬ t.val % 128 = 0) (h1 : ¬ t.val % 128 = 127) :
    ((outsAt0 (F := Ideal) m c t.val t.isLt).2.2 : Vec Ideal S1x1 .f32) (ix2 0 0)
      = ((outsAt0 (F := Ideal) m c (t.val - 1) (Nat.lt_of_le_of_lt (Nat.sub_le _ _) t.isLt)).2.2 : Vec Ideal S1x1 .f32) (ix2 0 0)
        + ∑ i ∈ Finset.range 8, ptSq m c i t := by
  rw [outsAt0_B m c t h0 h1]
  dsimp only
  rw [out_B_8 (F := Ideal), ← sumV_ideal hf t 8]
  rfl

theorem outs_C (hf : RealC m c) (t : Fin cfg0.N) (h1 : t.val % 128 = 127) :
    ((outsAt0 (F := Ideal) m c t.val t.isLt).2.2 : Vec Ideal S1x1 .f32) (ix2 0 0)
      = (((outsAt0 (F := Ideal) m c (t.val - 1) (Nat.lt_of_le_of_lt (Nat.sub_le _ _) t.isLt)).2.2 : Vec Ideal S1x1 .f32) (ix2 0 0)
        + ∑ i ∈ Finset.range 8, ptSq m c i t) * Ideal.ofBits .f32 0x34800000#32 := by
  rw [outsAt0_C m c t (by omega) h1]
  dsimp only
  rw [out_C_8 (F := Ideal), ← sumV_ideal hf t 8]
  rfl

/-- Point `n`'s addition to the loss, over all codebooks (zero past the grid). -/
def ptAll (m : (ℓ : Loc nD τ sig) → Buf (Elt Ideal) ℓ) (c : Dev nD) (n : ℕ) : EReal :=
  if h : n < cfg0.N then ∑ i ∈ Finset.range 8, ptSq m c i ⟨n, h⟩ else 0

theorem ptAll_eq (t : Fin cfg0.N) : ptAll m c t.val = ∑ i ∈ Finset.range 8, ptSq m c i t := dif_pos t.isLt

/-- Before the last point the loss block holds the sum so far. -/
theorem loss_upto (hf : RealC m c) : ∀ (n : ℕ) (hn : n < cfg0.N), n < 127 →
    ((outsAt0 (F := Ideal) m c n hn).2.2 : Vec Ideal S1x1 .f32) (ix2 0 0) = ∑ k ∈ Finset.range (n + 1), ptAll m c k
  | 0, hn, _ => by
    rw [Finset.sum_range_one]
    exact (outs_A hf ⟨0, hn⟩ rfl).trans (ptAll_eq ⟨0, hn⟩).symm
  | n + 1, hn, h => by
    rw [Finset.sum_range_succ, ← loss_upto hf n (Nat.lt_of_succ_lt hn) (by omega)]
    refine (outs_B hf ⟨n + 1, hn⟩ (by show ¬ (n + 1) % 128 = 0; omega) (by show ¬ (n + 1) % 128 = 127; omega)).trans ?_
    rw [← ptAll_eq]
    rfl

/-- The loss as the region leaves it. -/
def resultLoss (m : (ℓ : Loc nD τ sig) → Buf (Elt Ideal) ℓ) (c : Dev nD) : EReal :=
  (∑ k ∈ Finset.range 128, ptAll m c k) * Ideal.ofBits .f32 0x34800000#32

theorem loss_last (hf : RealC m c) (t : Fin cfg0.N) (h1 : t.val % 128 = 127) :
    ((outsAt0 (F := Ideal) m c t.val t.isLt).2.2 : Vec Ideal S1x1 .f32) (ix2 0 0) = resultLoss m c := by
  have ht : t.val = 127 := by have := pt_lt t; omega
  rw [outs_C hf t h1, ← ptAll_eq]
  unfold resultLoss
  rw [Finset.sum_range_succ]
  have e := loss_upto hf (t.val - 1) (Nat.lt_of_le_of_lt (Nat.sub_le _ _) t.isLt) (by omega)
  rw [e, ht]

theorem final_8 (hf : RealC m c) : ((dats (F := Ideal) m 0 c).arrAt 8 (cfgs 0).N : Vec Ideal S1x1 .f32) = fun _ => resultLoss m c := by
  refine (dats m 0 c).arrAt_eq_of_covers 8 _ (by decide +kernel) fun t hf' y => ?_
  blk_simp
  rw [after0_8]
  idx_vars y
  obtain rfl : y0 = 0 := Subsingleton.elim _ _
  obtain rfl : y1 = 0 := Subsingleton.elim _ _
  exact loss_last hf t ((flush0_8 t).mp hf')

end Cert.KernelIdeal.Arrays
-- ==== Proof.SpecReal.lean ====
/-
  The quantizer on real data: residuals stay real, the two spellings of the distance agree, and so do the two of the loss.
-/
module

public import proofs.«01_k».proof.Proof.Spec

@[expose] public section

noncomputable section

namespace Rvq

open Idealize.ShloMosaic

/-- Every entry is a real number. -/
def Real' {α : Type} (v : α → EReal) : Prop := ∀ a, ∃ r : ℝ, v a = (r : EReal)

theorem coe_sum {ι : Type} [Fintype ι] (f : ι → ℝ) : (∑ i, (f i : EReal)) = ((∑ i, f i : ℝ) : EReal) := by
  classical
  refine Finset.induction_on (Finset.univ : Finset ι) (by simp) ?_
  intro a s ha ih
  rw [Finset.sum_insert ha, Finset.sum_insert ha, ih, EReal.coe_add]

theorem sum_real {ι : Type} [Fintype ι] (f : ι → EReal) (h : Real' f) : ∃ r : ℝ, (∑ i, f i) = (r : EReal) := by
  choose g hg using h
  exact ⟨∑ i, g i, by rw [← coe_sum]; exact Finset.sum_congr rfl fun i _ => hg i⟩

variable {v : Fin 64 → EReal} {B : ℕ → Fin 2048 → Fin 64 → EReal}

theorem res_real (hv : Real' v) (hB : ∀ i k, Real' (B i k)) : ∀ i, Real' (res v B i)
  | 0 => hv
  | i + 1 => fun d => by
    obtain ⟨a, ha⟩ := res_real hv hB i d
    obtain ⟨b, hb⟩ := hB i (code v B i) d
    exact ⟨a - b, by rw [res_succ, ha, hb, EReal.coe_sub]⟩

/-- Doubling each term of the inner product, or the whole of it. -/
theorem dist_terms (r : Fin 64 → EReal) (C : Fin 2048 → Fin 64 → EReal) (hr : Real' r) (hC : ∀ k, Real' (C k)) (k : Fin 2048) :
    ((∑ d, r d * r d) - ∑ d, 2 * r d * C k d) + ∑ d, C k d * C k d = dist r C k := by
  have e : (∑ d, 2 * r d * C k d) = 2 * ∑ d, r d * C k d := by
    choose a ha using hr
    choose b hb using hC k
    have e2 : (2 : EReal) = ((2 : ℝ) : EReal) := by norm_cast
    simp only [ha, hb, e2, ← EReal.coe_mul, coe_sum]
    congr 1
    rw [Finset.mul_sum]
    exact Finset.sum_congr rfl fun d _ => mul_assoc _ _ _
  unfold dist
  rw [e]

theorem add_sub_back (r q : EReal) (hr : ∃ a : ℝ, r = a) (hq : ∃ a : ℝ, q = a) : r + (q - r) = q := by
  obtain ⟨a, rfl⟩ := hr
  obtain ⟨b, rfl⟩ := hq
  rw [← EReal.coe_sub, ← EReal.coe_add]
  congr 1
  ring

/-! ## The loss -/

/-- The sum of the squared residuals before codebook `i`. -/
def sqSum (X : Fin 16 → Fin 4096 → Fin 64 → EReal) (B : ℕ → Fin 2048 → Fin 64 → EReal) (i : ℕ) : EReal := ∑ b : Fin 16, ∑ d : Fin 64, ∑ j : Fin 4096, res (X b j) B i d * res (X b j) B i d

/-- The loss after `i` codebooks: a running sum of means. -/
def lossAt (X : Fin 16 → Fin 4096 → Fin 64 → EReal) (B : ℕ → Fin 2048 → Fin 64 → EReal) : ℕ → EReal
  | 0 => 0
  | i + 1 => lossAt X B i + Ideal.div (sqSum X B (i + 1)) (Ideal.ofBits .f32 0x4A800000#32)

variable {X : Fin 16 → Fin 4096 → Fin 64 → EReal}

theorem sqSum_real (hX : ∀ b j, Real' (X b j)) (hB : ∀ i k, Real' (B i k)) (i : ℕ) : ∃ r : ℝ, sqSum X B i = (r : EReal) :=
  sum_real _ fun b => sum_real _ fun d => sum_real _ fun j => by
    obtain ⟨a, ha⟩ := res_real (hX b j) hB i d
    exact ⟨a * a, by rw [ha, EReal.coe_mul]⟩

/-- The running sum of means is the sum of everything, divided once. -/
theorem lossAt_eq (hX : ∀ b j, Real' (X b j)) (hB : ∀ i k, Real' (B i k)) (n : ℕ) :
    lossAt X B n = (∑ i ∈ Finset.range n, sqSum X B (i + 1)) * Ideal.ofBits .f32 0x34800000#32 := by
  rw [ofBits_small]
  have H : ∀ n : ℕ, ∃ r : ℝ, (∑ i ∈ Finset.range n, sqSum X B (i + 1)) = (r : EReal) := fun n => by
    induction n with
    | zero => exact ⟨0, by simp⟩
    | succ n ih =>
      obtain ⟨a, ha⟩ := ih
      obtain ⟨b, hb⟩ := sqSum_real hX hB (n + 1)
      exact ⟨a + b, by rw [Finset.sum_range_succ, ha, hb, EReal.coe_add]⟩
  induction n with
  | zero => simp [lossAt]
  | succ n ih =>
    obtain ⟨a, ha⟩ := H n
    obtain ⟨b, hb⟩ := sqSum_real hX hB (n + 1)
    rw [Finset.sum_range_succ, lossAt, ih, ha, hb, ofBits_large, Ideal.div_coe (by norm_num), ← EReal.coe_add, ← EReal.coe_mul, ← EReal.coe_mul,
      ← EReal.coe_add]
    congr 1
    ring

/-- A sum over a range cut into equal runs. -/
theorem sum_split {M : Type} [AddCommMonoid M] (m n p : ℕ) (hp : m * n = p) (f : Fin p → M) :
    (∑ i, f i) = ∑ a : Fin m, ∑ b : Fin n, f ⟨a.val * n + b.val, by
      subst hp; calc a.val * n + b.val < a.val * n + n := by have := b.isLt; omega
        _ = (a.val + 1) * n := by ring
        _ ≤ m * n := Nat.mul_le_mul_right _ a.isLt⟩ := by
  subst hp
  rw [← Equiv.sum_comp finProdFinEquiv, Fintype.sum_prod_type]
  refine Finset.sum_congr rfl fun a _ => Finset.sum_congr rfl fun b _ => congrArg f (Fin.ext ?_)
  show b.val + n * a.val = _
  rw [Nat.mul_comm, Nat.add_comm]

/-- All columns, point by point: a point has an image and a run of 512 columns, in four runs of 128. -/
theorem sum_points {M : Type} [AddCommMonoid M] (g : Fin 16 → Fin 4096 → M) :
    (∑ t : Fin 128, ∑ s : Fin 4, ∑ u : Fin 128, g ⟨t.val / 8, by omega⟩ ⟨t.val % 8 * 512 + (128 * s.val + u.val), by omega⟩) = ∑ b, ∑ j, g b j := by
  rw [sum_split 16 8 128 rfl]
  refine Finset.sum_congr rfl fun b _ => ?_
  rw [sum_split 8 512 4096 rfl]
  refine Finset.sum_congr rfl fun p _ => ?_
  rw [sum_split 4 128 512 rfl]
  refine Finset.sum_congr rfl fun s _ => Finset.sum_congr rfl fun u _ => ?_
  have e1 : (b.val * 8 + p.val) / 8 = b.val := by omega
  have e2 : (b.val * 8 + p.val) % 8 * 512 + (128 * s.val + u.val) = p.val * 512 + (s.val * 128 + u.val) := by omega
  exact congrArg₂ g (Fin.ext e1) (Fin.ext e2)

end Rvq
-- ==== Proof.KernelRun.lean ====
/-
  What the kernel's program leaves: the two arrays of the region, and the loss read off its block after the region.
-/
module

public import proofs.«01_k».proof.Proof.Result
public import proofs.«01_k».proof.Proof.SpecReal
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.KernelIdeal.Arrays

open Cert.KernelIdeal Cert.KernelIdeal.Gen

variable (m : (ℓ : Loc nD τ sig) → Buf (Elt Ideal) ℓ) (c : Dev nD)

theorem sq_sum (i : ℕ) : (∑ b, ∑ k, sq m c i b k) = Rvq.sqSum (colX m c) (bookC m c) i :=
  Finset.sum_congr rfl fun b _ => Finset.sum_comm

/-- The loss gathers every column once. -/
theorem resultLoss_eq : resultLoss m c
    = (∑ i ∈ Finset.range 8, Rvq.sqSum (colX m c) (bookC m c) (i + 1)) * Ideal.ofBits .f32 0x34800000#32 := by
  unfold resultLoss
  refine congrArg (· * Ideal.ofBits .f32 0x34800000#32) ?_
  have e : ∀ t : Fin 128, ptAll m c t.val = ∑ i ∈ Finset.range 8, ptSq m c i t := fun t => ptAll_eq (m := m) (c := c) t
  rw [← Fin.sum_univ_eq_sum_range (fun k => ptAll m c k) 128, Finset.sum_congr rfl fun t _ => e t, Finset.sum_comm]
  refine Finset.sum_congr rfl fun i _ => ?_
  rw [← sq_sum, ← Rvq.sum_points]
  rfl

variable {m c}

/-- The scalar loss is the one entry of the loss block. -/
theorem loss_tail (hf : RealC m c) :
    Pipeline.afterTail₀ cfgs (dats m) 0 (V0 m) [hostOps1] c main_v10 = fun _ => resultLoss m c := by
  unfold Pipeline.afterTail₀
  simp only [List.flatten_cons, List.flatten_nil, List.append_nil]
  after_results
  clean_types
  rw [show Pipeline.withArrays (cfgs 0).spec c (V0 m c) (fun w => (dats m 0 c).arrAt w (cfgs 0).N) (Proc.devRef .tc main_v9_2) = fun _ => resultLoss m c from
    (Pipeline.withArrays_arr (cfgs 0).spec launch0.win.arr_inj c _ _ 8).trans (final_8 hf)]
  rfl

end Cert.KernelIdeal.Arrays

end
-- ==== Proof.RefRun.lean ====
/-
  The reference program runs: twelve host operations, a loop of eight trips, a transpose. Every unscoped buffer ends at
  the contents that the operations leave, one after the other.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Loop

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The program's stretches -/

/-- 12 host operations of @main, in order. -/
abbrev hostOps0 : List (HloOp τ sig (Elt F)) :=
  [ StableHlo.nullary main_cst (constant S_ .f32 0x00000000#32),
    StableHlo.unary main_cst main_v0 (broadcastInDim S16x64x4096 ![] bcast_S_S16x64x4096 : (⟨S_, .f32⟩ : BufTy).Contents (Elt F) → (⟨S16x64x4096, .f32⟩ : BufTy).Contents (Elt F)),
    StableHlo.nullary main_cst_0 (constant S_ .f32 0x00000000#32),
    StableHlo.nullary main_c (constantI S_ 32 0#32),
    StableHlo.unary main_c main_v1 (broadcastInDim S8x16x4096 ![] bcast_S_S8x16x4096 : (⟨S_, .i32⟩ : BufTy).Contents (Elt F) → (⟨S8x16x4096, .i32⟩ : BufTy).Contents (Elt F)),
    StableHlo.nullary main_c_1 (constantI S_ 32 0#32),
    StableHlo.unary main_arg1 main_v2_0 id,
    StableHlo.unary main_c_1 main_v2_1 id,
    StableHlo.unary main_arg0 main_v2_2 id,
    StableHlo.unary main_v0 main_v2_3 id,
    StableHlo.unary main_cst_0 main_v2_4 id,
    StableHlo.unary main_v1 main_v2_5 id ]
/-- Each touches TensorCore references only. -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, in order. -/
abbrev hostOps0_1 : List (HloOp τ sig (Elt F)) :=
  [ StableHlo.unary main_v2_5 main_v3 ((transpose S16x8x4096 [1, 0, 2] · transposes_S8x16x4096_S16x8x4096_1_0_2) : (⟨S8x16x4096, .i32⟩ : BufTy).Contents (Elt F) → (⟨S16x8x4096, .i32⟩ : BufTy).Contents (Elt F)) ]
/-- Each touches TensorCore references only. -/
theorem hostOps0_1_sub : (hostOps0_1 : List (HloOp τ sig (Elt F))).Forall fun op => op.bufs ⊆ StableHlo.tcRefs τ sig :=
  StableHlo.unary_bufs_sub ..
/-- `main` is two stretches of host operations around the loop. -/
theorem main_chain (c : Dev nD) : main (F := F) c = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v2_0 : StableHlo.TRef sig ⟨S8x2048x64, .f32⟩) ![(.of main_v2_1 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x2048x64, .f32⟩) (fun x i => Host.dynamicSlice S1x2048x64 x (fun k => (i k (Shape.Idx.first h_S_)).toInt) sliceFits_S8x2048x64_S1x2048x64),
    StableHlo.TRef.reshape (.of main_while0b_call0_v0 : StableHlo.TRef sig ⟨S1x2048x64, .f32⟩) (.of main_while0b_v4 : StableHlo.TRef sig ⟨S2048x64, .f32⟩) (rfl : (.f32 : EltTy) = .f32) shapeCasts_S1x2048x64_S2048x64 ]
/-- Each touches TensorCore references only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 22 host operations of host loop 0's body region, in order. -/
abbrev while0Ops0_1 : List (HloOp τ sig (Elt F)) :=
  [ StableHlo.unary main_v2_2 main_while0b_v5 ((transpose S16x4096x64 [0, 2, 1] · transposes_S16x64x4096_S16x4096x64_0_2_1) : (⟨S16x64x4096, .f32⟩ : BufTy).Contents (Elt F) → (⟨S16x4096x64, .f32⟩ : BufTy).Contents (Elt F)),
    StableHlo.reshape main_while0b_v5 main_while0b_v6 (rfl : (.f32 : EltTy) = .f32) shapeCasts_S16x4096x64_S65536x64,
    StableHlo.binary main_while0b_v6 main_while0b_v6 main_while0b_v7 (mulf : (⟨S65536x64, .f32⟩ : BufTy).Contents (Elt F) → (⟨S65536x64, .f32⟩ : BufTy).Contents (Elt F) → (⟨S65536x64, .f32⟩ : BufTy).Contents (Elt F)),
    StableHlo.nullary main_while0b_cst_7 (constant S_ .f32 0x00000000#32),
    StableHlo.binary main_while0b_v7 main_while0b_cst_7 main_while0b_v8 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    StableHlo.unary main_while0b_v8 main_while0b_v9 (broadcastInDim S65536x1 ![0] bcast_S65536_S65536x1_0 : (⟨S65536, .f32⟩ : BufTy).Contents (Elt F) → (⟨S65536x1, .f32⟩ : BufTy).Contents (Elt F)),
    StableHlo.binary main_while0b_v4 main_while0b_v4 main_while0b_v10 (mulf : (⟨S2048x64, .f32⟩ : BufTy).Contents (Elt F) → (⟨S2048x64, .f32⟩ : BufTy).Contents (Elt F) → (⟨S2048x64, .f32⟩ : BufTy).Contents (Elt F)),
    StableHlo.nullary main_while0b_cst_8 (constant S_ .f32 0x00000000#32),
    StableHlo.binary main_while0b_v10 main_while0b_cst_8 main_while0b_v11 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    StableHlo.unary main_while0b_v11 main_while0b_v12 (broadcastInDim S1x2048 ![1] bcast_S2048_S1x2048_1 : (⟨S2048, .f32⟩ : BufTy).Contents (Elt F) → (⟨S1x2048, .f32⟩ : BufTy).Contents (Elt F)),
    StableHlo.nullary main_while0b_cst_9 (constant S_ .f32 0x40000000#32),
    StableHlo.unary main_while0b_cst_9 main_while0b_v13 (broadcastInDim S65536x64 ![] bcast_S_S65536x64 : (⟨S_, .f32⟩ : BufTy).Contents (Elt F) → (⟨S65536x64, .f32⟩ : BufTy).Contents (Elt F)),
    StableHlo.binary main_while0b_v13 main_while0b_v6 main_while0b_v14 (mulf : (⟨S65536x64, .f32⟩ : BufTy).Contents (Elt F) → (⟨S65536x64, .f32⟩ : BufTy).Contents (Elt F) → (⟨S65536x64, .f32⟩ : BufTy).Contents (Elt F)),
    StableHlo.unary main_while0b_v4 main_while0b_v15 ((transpose S64x2048 [1, 0] · transposes_S2048x64_S64x2048_1_0) : (⟨S2048x64, .f32⟩ : BufTy).Contents (Elt F) → (⟨S64x2048, .f32⟩ : BufTy).Contents (Elt F)),
    StableHlo.binary main_while0b_v14 main_while0b_v15 main_while0b_v16 ((fun l r => Host.dotGeneral dot_S65536x64_S64x2048_S65536x2048_1_0_0_1_n_n none l r) : (⟨S65536x64, .f32⟩ : BufTy).Contents (Elt F) → (⟨S64x2048, .f32⟩ : BufTy).Contents (Elt F) → (⟨S65536x2048, .f32⟩ : BufTy).Contents (Elt F)),
    StableHlo.unary main_while0b_v9 main_while0b_v17 (broadcastInDim S65536x2048 ![0, 1] bcast_S65536x1_S65536x2048_0_1 : (⟨S65536x1, .f32⟩ : BufTy).Contents (Elt F) → (⟨S65536x2048, .f32⟩ : BufTy).Contents (Elt F)),
    StableHlo.binary main_while0b_v17 main_while0b_v16 main_while0b_v18 (subf : (⟨S65536x2048, .f32⟩ : BufTy).Contents (Elt F) → (⟨S65536x2048, .f32⟩ : BufTy).Contents (Elt F) → (⟨S65536x2048, .f32⟩ : BufTy).Contents (Elt F)),
    StableHlo.unary main_while0b_v12 main_while0b_v19 (broadcastInDim S65536x2048 ![0, 1] bcast_S1x2048_S65536x2048_0_1 : (⟨S1x2048, .f32⟩ : BufTy).Contents (Elt F) → (⟨S65536x2048, .f32⟩ : BufTy).Contents (Elt F)),
    StableHlo.binary main_while0b_v18 main_while0b_v19 main_while0b_v20 (addf : (⟨S65536x2048, .f32⟩ : BufTy).Contents (Elt F) → (⟨S65536x2048, .f32⟩ : BufTy).Contents (Elt F) → (⟨S65536x2048, .f32⟩ : BufTy).Contents (Elt F)) ]
/-- Each touches TensorCore references only. -/
theorem while0Ops0_1_sub : (while0Ops0_1 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩
/-- 5 host operations of @argmin (main_while0b_call1), in order. -/
abbrev while0Ops0_2 : List (HloOp τ sig (Elt F)) :=
  [ StableHlo.TRef.nullary (.of main_while0b_call1_v0 : StableHlo.TRef sig ⟨S65536x2048, .i32⟩) (iotaInDim S65536x2048 32 1),
    StableHlo.TRef.nullary (.of main_while0b_call1_cst : StableHlo.TRef sig ⟨S_, .f32⟩) (constant S_ .f32 0x7F800000#32),
    StableHlo.TRef.nullary (.of main_while0b_call1_c : StableHlo.TRef sig ⟨S_, .i32⟩) (constantI S_ 32 0#32),
    StableHlo.TRef.quaternary (.of main_while0b_v20 : StableHlo.TRef sig ⟨S65536x2048, .f32⟩) (.of main_while0b_call1_v0 : StableHlo.TRef sig ⟨S65536x2048, .i32⟩) (.of main_while0b_call1_cst : StableHlo.TRef sig ⟨S_, .f32⟩) (.of main_while0b_call1_c : StableHlo.TRef sig ⟨S_, .i32⟩) (.of main_while0b_call1_v1_0 : StableHlo.TRef sig ⟨S65536, .f32⟩)
      (fun x y u v j => (Host.argReduce reducer_argmin_f32_i32 x y u v reducesTo_S65536x2048_S65536_d1 h_S_ j).1),
    StableHlo.TRef.quaternary (.of main_while0b_v20 : StableHlo.TRef sig ⟨S65536x2048, .f32⟩) (.of main_while0b_call1_v0 : StableHlo.TRef sig ⟨S65536x2048, .i32⟩) (.of main_while0b_call1_cst : StableHlo.TRef sig ⟨S_, .f32⟩) (.of main_while0b_call1_c : StableHlo.TRef sig ⟨S_, .i32⟩) (.of main_while0b_v21 : StableHlo.TRef sig ⟨S65536, .i32⟩)
      (fun x y u v j => (Host.argReduce reducer_argmin_f32_i32 x y u v reducesTo_S65536x2048_S65536_d1 h_S_ j).2) ]
/-- Each touches TensorCore references only. -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 23 host operations of @_take (main_while0b_call2), in order. -/
abbrev while0Ops0_3 : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S65536, .i32⟩) (broadcastInDim S65536 ![] bcast_S_S65536),
    StableHlo.TRef.binary (.of main_while0b_v21 : StableHlo.TRef sig ⟨S65536, .i32⟩) (.of main_while0b_call2_v0 : StableHlo.TRef sig ⟨S65536, .i32⟩) (.of main_while0b_call2_v1 : StableHlo.TRef sig ⟨S65536, .i1⟩) (cmpi .slt),
    StableHlo.TRef.nullary (.of main_while0b_call2_c_0 : StableHlo.TRef sig ⟨S_, .i32⟩) (constantI S_ 32 2048#32),
    StableHlo.TRef.unary (.of main_while0b_call2_c_0 : StableHlo.TRef sig ⟨S_, .i32⟩) (.of main_while0b_call2_v2 : StableHlo.TRef sig ⟨S65536, .i32⟩) (broadcastInDim S65536 ![] bcast_S_S65536),
    StableHlo.TRef.binary (.of main_while0b_v21 : StableHlo.TRef sig ⟨S65536, .i32⟩) (.of main_while0b_call2_v2 : StableHlo.TRef sig ⟨S65536, .i32⟩) (.of main_while0b_call2_v3 : StableHlo.TRef sig ⟨S65536, .i32⟩) addi,
    StableHlo.TRef.ternary (.of main_while0b_call2_v1 : StableHlo.TRef sig ⟨S65536, .i1⟩) (.of main_while0b_call2_v3 : StableHlo.TRef sig ⟨S65536, .i32⟩) (.of main_while0b_v21 : StableHlo.TRef sig ⟨S65536, .i32⟩) (.of main_while0b_call2_v4 : StableHlo.TRef sig ⟨S65536, .i32⟩) select,
    StableHlo.TRef.unary main_while0b_call2_call0.v0 (.of main_while0b_call2_v5 : StableHlo.TRef sig ⟨S65536x1, .i32⟩) (broadcastInDim S65536x1 ![0] bcast_S65536_S65536x1_0),
    StableHlo.TRef.nullary (.of main_while0b_call2_c_1 : StableHlo.TRef sig ⟨S1, .i32⟩) (constantI S1 32 2047#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v6 : StableHlo.TRef sig ⟨S65536x1, .i32⟩) (broadcastInDim S65536x1 ![] bcast_S_S65536x1),
    StableHlo.TRef.binary (.of main_while0b_call2_v5 : StableHlo.TRef sig ⟨S65536x1, .i32⟩) (.of main_while0b_call2_v6 : StableHlo.TRef sig ⟨S65536x1, .i32⟩) (.of main_while0b_call2_v7 : StableHlo.TRef sig ⟨S65536x1, .i1⟩) (cmpi .sge),
    StableHlo.TRef.unary (.of main_while0b_call2_c_1 : StableHlo.TRef sig ⟨S1, .i32⟩) (.of main_while0b_call2_v8 : StableHlo.TRef sig ⟨S1x1, .i32⟩) (broadcastInDim S1x1 ![1] bcast_S1_S1x1_1),
    StableHlo.TRef.unary (.of main_while0b_call2_v8 : StableHlo.TRef sig ⟨S1x1, .i32⟩) (.of main_while0b_call2_v9 : StableHlo.TRef sig ⟨S65536x1, .i32⟩) (broadcastInDim S65536x1 ![0, 1] bcast_S1x1_S65536x1_0_1),
    StableHlo.TRef.binary (.of main_while0b_call2_v5 : StableHlo.TRef sig ⟨S65536x1, .i32⟩) (.of main_while0b_call2_v9 : StableHlo.TRef sig ⟨S65536x1, .i32⟩) (.of main_while0b_call2_v10 : StableHlo.TRef sig ⟨S65536x1, .i1⟩) (cmpi .sle),
    StableHlo.TRef.binary (.of main_while0b_call2_v7 : StableHlo.TRef sig ⟨S65536x1, .i1⟩) (.of main_while0b_call2_v10 : StableHlo.TRef sig ⟨S65536x1, .i1⟩) (.of main_while0b_call2_v11 : StableHlo.TRef sig ⟨S65536x1, .i1⟩) andi,
    StableHlo.TRef.nullary (.of main_while0b_call2_c_3 : StableHlo.TRef sig ⟨S_, .i1⟩) (constantI S_ 1 1#1),
    StableHlo.TRef.binary (.of main_while0b_call2_v11 : StableHlo.TRef sig ⟨S65536x1, .i1⟩) (.of main_while0b_call2_c_3 : StableHlo.TRef sig ⟨S_, .i1⟩) (.of main_while0b_call2_v12 : StableHlo.TRef sig ⟨S65536, .i1⟩) (fun x v => Host.reduce IntOp.andi x v reducesTo_S65536x1_S65536_d1 h_S_),
    StableHlo.TRef.binary (.of main_while0b_v4 : StableHlo.TRef sig ⟨S2048x64, .f32⟩) (.of main_while0b_call2_v5 : StableHlo.TRef sig ⟨S65536x1, .i32⟩) (.of main_while0b_call2_v13 : StableHlo.TRef sig ⟨S65536x64, .f32⟩) (fun x i => Host.gather gather_S2048x64_S65536x1_S65536x64_1_0_n_n_0_1_164 x i),
    StableHlo.TRef.unary (.of main_while0b_call2_v12 : StableHlo.TRef sig ⟨S65536, .i1⟩) (.of main_while0b_call2_v14 : StableHlo.TRef sig ⟨S65536x64, .i1⟩) (broadcastInDim S65536x64 ![0] bcast_S65536_S65536x64_0),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v15 : StableHlo.TRef sig ⟨S65536x64, .f32⟩) (broadcastInDim S65536x64 ![] bcast_S_S65536x64),
    StableHlo.TRef.ternary (.of main_while0b_call2_v14 : StableHlo.TRef sig ⟨S65536x64, .i1⟩) (.of main_while0b_call2_v13 : StableHlo.TRef sig ⟨S65536x64, .f32⟩) (.of main_while0b_call2_v15 : StableHlo.TRef sig ⟨S65536x64, .f32⟩) (.of main_while0b_v22 : StableHlo.TRef sig ⟨S65536x64, .f32⟩) select ]
/-- Each touches TensorCore references only. -/
theorem while0Ops0_3_sub : (while0Ops0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 13 host operations of host loop 0's body region, in order. -/
abbrev while0Ops0_4 : List (HloOp τ sig (Elt F)) :=
  [ StableHlo.reshape main_while0b_v22 main_while0b_v23 (rfl : (.f32 : EltTy) = .f32) shapeCasts_S65536x64_S16x4096x64,
    StableHlo.unary main_while0b_v23 main_while0b_v24 ((transpose S16x64x4096 [0, 2, 1] · transposes_S16x4096x64_S16x64x4096_0_2_1) : (⟨S16x4096x64, .f32⟩ : BufTy).Contents (Elt F) → (⟨S16x64x4096, .f32⟩ : BufTy).Contents (Elt F)),
    StableHlo.reshape main_while0b_v21 main_while0b_v25 (rfl : (.i32 : EltTy) = .i32) shapeCasts_S65536_S16x4096,
    StableHlo.binary main_while0b_v24 main_v2_2 main_while0b_v26 (subf : (⟨S16x64x4096, .f32⟩ : BufTy).Contents (Elt F) → (⟨S16x64x4096, .f32⟩ : BufTy).Contents (Elt F) → (⟨S16x64x4096, .f32⟩ : BufTy).Contents (Elt F)),
    StableHlo.binary main_v2_2 main_while0b_v26 main_while0b_v27 (addf : (⟨S16x64x4096, .f32⟩ : BufTy).Contents (Elt F) → (⟨S16x64x4096, .f32⟩ : BufTy).Contents (Elt F) → (⟨S16x64x4096, .f32⟩ : BufTy).Contents (Elt F)),
    StableHlo.binary main_v2_3 main_while0b_v27 main_while0b_v28 (addf : (⟨S16x64x4096, .f32⟩ : BufTy).Contents (Elt F) → (⟨S16x64x4096, .f32⟩ : BufTy).Contents (Elt F) → (⟨S16x64x4096, .f32⟩ : BufTy).Contents (Elt F)),
    StableHlo.binary main_v2_2 main_while0b_v24 main_while0b_v29 (subf : (⟨S16x64x4096, .f32⟩ : BufTy).Contents (Elt F) → (⟨S16x64x4096, .f32⟩ : BufTy).Contents (Elt F) → (⟨S16x64x4096, .f32⟩ : BufTy).Contents (Elt F)),
    StableHlo.binary main_while0b_v29 main_while0b_v29 main_while0b_v30 (mulf : (⟨S16x64x4096, .f32⟩ : BufTy).Contents (Elt F) → (⟨S16x64x4096, .f32⟩ : BufTy).Contents (Elt F) → (⟨S16x64x4096, .f32⟩ : BufTy).Contents (Elt F)),
    StableHlo.nullary main_while0b_cst_10 (constant S_ .f32 0x00000000#32),
    StableHlo.binary main_while0b_v30 main_while0b_cst_10 main_while0b_v31 ((fun x v => Host.reduceAdd x v reducesTo_S16x64x4096_S_d0_1_2 h_S_) : (⟨S16x64x4096, .f32⟩ : BufTy).Contents (Elt F) → (⟨S_, .f32⟩ : BufTy).Contents (Elt F) → (⟨S_, .f32⟩ : BufTy).Contents (Elt F)),
    StableHlo.nullary main_while0b_cst_11 (constant S_ .f32 0x4A800000#32),
    StableHlo.binary main_while0b_v31 main_while0b_cst_11 main_while0b_v32 (Host.divf : (⟨S_, .f32⟩ : BufTy).Contents (Elt F) → (⟨S_, .f32⟩ : BufTy).Contents (Elt F) → (⟨S_, .f32⟩ : BufTy).Contents (Elt F)),
    StableHlo.binary main_v2_4 main_while0b_v32 main_while0b_v33 (addf : (⟨S_, .f32⟩ : BufTy).Contents (Elt F) → (⟨S_, .f32⟩ : BufTy).Contents (Elt F) → (⟨S_, .f32⟩ : BufTy).Contents (Elt F)) ]
/-- Each touches TensorCore references only. -/
theorem while0Ops0_4_sub : (while0Ops0_4 : List (HloOp τ sig (Elt F))).Forall fun op => op.bufs ⊆ StableHlo.tcRefs τ sig :=
  ⟨StableHlo.reshape_bufs_sub .., StableHlo.unary_bufs_sub .., StableHlo.reshape_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub ..⟩
/-- 4 host operations of @dynamic_update_index_in_dim (main_while0b_call3), in order. -/
abbrev while0Ops0_5 : List (HloOp τ sig (Elt F)) :=
  [ StableHlo.TRef.unary (.of main_while0b_v25 : StableHlo.TRef sig ⟨S16x4096, .i32⟩) (.of main_while0b_call3_v0 : StableHlo.TRef sig ⟨S1x16x4096, .i32⟩) (broadcastInDim S1x16x4096 ![1, 2] bcast_S16x4096_S1x16x4096_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v2_5 : StableHlo.TRef sig ⟨S8x16x4096, .i32⟩) (.of main_while0b_call3_v0 : StableHlo.TRef sig ⟨S1x16x4096, .i32⟩) ![(.of main_v2_1 : StableHlo.TRef sig ⟨S_, .i32⟩), (.of main_while0b_call3_c : StableHlo.TRef sig ⟨S_, .i32⟩), (.of main_while0b_call3_c_0 : StableHlo.TRef sig ⟨S_, .i32⟩)] (.of main_while0b_v34 : StableHlo.TRef sig ⟨S8x16x4096, .i32⟩) (fun x u i => Host.dynamicUpdateSlice x u (fun k => (i k (Shape.Idx.first h_S_)).toInt) updateFits_S8x16x4096_S1x16x4096) ]
/-- Each touches TensorCore references only. -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 7 host operations of host loop 0's body region, in order. -/
abbrev while0Ops0_6 : List (HloOp τ sig (Elt F)) :=
  [ StableHlo.nullary main_while0b_c_12 (constantI S_ 32 1#32),
    StableHlo.binary main_v2_1 main_while0b_c_12 main_while0b_v35 (addi : (⟨S_, .i32⟩ : BufTy).Contents (Elt F) → (⟨S_, .i32⟩ : BufTy).Contents (Elt F) → (⟨S_, .i32⟩ : BufTy).Contents (Elt F)),
    StableHlo.unary main_while0b_v35 main_v2_1 id,
    StableHlo.unary main_while0b_v29 main_v2_2 id,
    StableHlo.unary main_while0b_v28 main_v2_3 id,
    StableHlo.unary main_while0b_v33 main_v2_4 id,
    StableHlo.unary main_while0b_v34 main_v2_5 id ]
/-- Each touches TensorCore references only. -/
theorem while0Ops0_6_sub : (while0Ops0_6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- The loop's body is seven stretches of host operations. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, Pipeline.chain_cons, StableHlo.chain_seq_cons, Pipeline.chain_cons, StableHlo.chain_seq_cons]
  chain_rfl

end Cert.ReferenceIdeal.Loop

namespace Cert.ReferenceIdeal.Loop

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_cst_0, main_c, main_v1, main_c_1, main_v2_0, main_v2_1, main_v2_2, main_v2_3, main_v2_4, main_v2_5]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_c_0, main_while0b_call0_v0, main_while0b_v4]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v5, main_while0b_v6, main_while0b_v7, main_while0b_cst_7, main_while0b_v8, main_while0b_v9, main_while0b_v10, main_while0b_cst_8, main_while0b_v11, main_while0b_v12, main_while0b_cst_9, main_while0b_v13, main_while0b_v14, main_while0b_v15, main_while0b_v16, main_while0b_v17, main_while0b_v18, main_while0b_v19, main_while0b_v20]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_v0, main_while0b_call1_cst, main_while0b_call1_c, main_while0b_call1_v1_0, main_while0b_v21]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call2_c, main_while0b_call2_v0, main_while0b_call2_v1, main_while0b_call2_c_0, main_while0b_call2_v2, main_while0b_call2_v3, main_while0b_call2_v4, main_while0b_call2_v5, main_while0b_call2_c_1, main_while0b_call2_c_2, main_while0b_call2_v6, main_while0b_call2_v7, main_while0b_call2_v8, main_while0b_call2_v9, main_while0b_call2_v10, main_while0b_call2_v11, main_while0b_call2_c_3, main_while0b_call2_v12, main_while0b_call2_v13, main_while0b_call2_v14, main_while0b_call2_cst, main_while0b_call2_v15, main_while0b_v22]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_v23, main_while0b_v24, main_while0b_v25, main_while0b_v26, main_while0b_v27, main_while0b_v28, main_while0b_v29, main_while0b_v30, main_while0b_cst_10, main_while0b_v31, main_while0b_cst_11, main_while0b_v32, main_while0b_v33]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call3_v0, main_while0b_call3_c, main_while0b_call3_c_0, main_while0b_v34]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_c_12, main_while0b_v35, main_v2_1, main_v2_2, main_v2_3, main_v2_4, main_v2_5]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_v3]
theorem hostOps0_1_writes : (hostOps0_1 : List (HloOp τ sig (Elt F))).Forall fun op => op.writes ⊆ (hostOps0_1_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_7 (constantI S_ 32 8#32),
    StableHlo.binary main_v2_1 main_while0c_c_7 main_while0c_v4 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6]
abbrev postI : List (List (HloOp τ sig (Elt F))) := [hostOps0_1]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.nil)))))))
theorem hpost : Plain (postI (F := F)) := .cons hostOps0_1_sub (hf := List.forall_iff_forall_mem.mp hostOps0_1_fresh) (.nil)

/-- The reference each operation of `condOps` writes, in order. -/
abbrev condOps_W : List (Ref sig .tc) := [main_while0c_c_7, main_while0c_v4]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v2_1`) is written by one stretch of the body, `while0Ops0_6`: not by the condition, nor by the
    body's other stretches. -/
theorem ctr_cond (V : Valuation τ sig (Elt F)) : after condOps V (Proc.devRef .tc main_v2_1) = V (Proc.devRef .tc main_v2_1) :=
  after_of_writes_sub condOps V condOps_writes (by decide +kernel)
theorem ctr_while0Ops0 (V : Valuation τ sig (Elt F)) : after while0Ops0 V (Proc.devRef .tc main_v2_1) = V (Proc.devRef .tc main_v2_1) :=
  after_of_writes_sub while0Ops0 V while0Ops0_writes (by decide +kernel)
theorem ctr_while0Ops0_1 (V : Valuation τ sig (Elt F)) : after while0Ops0_1 V (Proc.devRef .tc main_v2_1) = V (Proc.devRef .tc main_v2_1) :=
  after_of_writes_sub while0Ops0_1 V while0Ops0_1_writes (by decide +kernel)
theorem ctr_while0Ops0_2 (V : Valuation τ sig (Elt F)) : after while0Ops0_2 V (Proc.devRef .tc main_v2_1) = V (Proc.devRef .tc main_v2_1) :=
  after_of_writes_sub while0Ops0_2 V while0Ops0_2_writes (by decide +kernel)
theorem ctr_while0Ops0_3 (V : Valuation τ sig (Elt F)) : after while0Ops0_3 V (Proc.devRef .tc main_v2_1) = V (Proc.devRef .tc main_v2_1) :=
  after_of_writes_sub while0Ops0_3 V while0Ops0_3_writes (by decide +kernel)
theorem ctr_while0Ops0_4 (V : Valuation τ sig (Elt F)) : after while0Ops0_4 V (Proc.devRef .tc main_v2_1) = V (Proc.devRef .tc main_v2_1) :=
  after_of_writes_sub while0Ops0_4 V while0Ops0_4_writes (by decide +kernel)
theorem ctr_while0Ops0_5 (V : Valuation τ sig (Elt F)) : after while0Ops0_5 V (Proc.devRef .tc main_v2_1) = V (Proc.devRef .tc main_v2_1) :=
  after_of_writes_sub while0Ops0_5 V while0Ops0_5_writes (by decide +kernel)

set_option maxRecDepth 100000 in
/-- `while0Ops0_6` leaves the counter one step on. -/
theorem ctr_step (X : Valuation τ sig (Elt F)) :
    after while0Ops0_6 X (Proc.devRef .tc main_v2_1) = addi (X (Proc.devRef .tc main_v2_1)) (constantI S_ 32 1#32) := by
  after_results
  rfl

/-- The counter is the loop's lower bound at the loop's entry: its last writer before the loop read back. -/
theorem ctr_entry (c : Dev nD) : entryContents preI m c (Proc.devRef .tc main_v2_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v2_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 8 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_1 HostLoop.idx0)
        (HloOp.result _ (atK m k c) main_while0c_c_7 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 8 m ρ (cond_spec m)

end Cert.ReferenceIdeal.Loop

end
-- ==== Proof.RefArgmin.lean ====
/-
  The reference's argmin over the extended reals is the first least place.
-/
module

public import proofs.«01_k».proof.Proof.RefRun
public import proofs.«01_k».proof.Proof.Spec

@[expose] public section

set_option maxRecDepth 16384

noncomputable section

namespace Cert.ReferenceIdeal.Loop

open Cert.ReferenceIdeal Cert.ReferenceIdeal.Gen
open Idealize.ShloMosaic Idealize.ShloMosaic.TcCoe
open Idealize.SL.Sem
open Idealize.ShloMosaic.StableHlo

/-- The order of the reduction's pairs: by value, among equal values by index. -/
def Before (p q : EReal × BitVec 32) : Prop := p.1 < q.1 ∨ (p.1 = q.1 ∧ p.2.toInt ≤ q.2.toInt)

theorem Before.rfl' (p : EReal × BitVec 32) : Before p p := .inr ⟨rfl, le_refl _⟩

theorem Before.trans' {p q r : EReal × BitVec 32} (h : Before p q) (h' : Before q r) : Before p r := by
  rcases h with h | ⟨h, i⟩
  · rcases h' with h' | ⟨h', i'⟩
    · exact .inl (h.trans h')
    · exact .inl (h' ▸ h)
  · rcases h' with h' | ⟨h', i'⟩
    · exact .inl (h ▸ h')
    · exact .inr ⟨h.trans h', i.trans i'⟩

theorem one_or (x : BitVec 1) : 1#1 ||| x = 1#1 := by revert x; decide

/-- The reduction's body takes one of its two pairs, and that one comes before both. -/
theorem reducer_pick (a b : EReal × BitVec 32) :
    ((reducer_argmin_f32_i32 (F := Ideal) a b : EReal × BitVec 32) = a ∨ (reducer_argmin_f32_i32 (F := Ideal) a b : EReal × BitVec 32) = b)
      ∧ Before (reducer_argmin_f32_i32 (F := Ideal) a b) a ∧ Before (reducer_argmin_f32_i32 (F := Ideal) a b) b := by
  obtain ⟨a1, a2⟩ := a
  obtain ⟨b1, b2⟩ := b
  have e : (reducer_argmin_f32_i32 (F := Ideal) (a1, a2) (b1, b2) : EReal × BitVec 32)
      = (if a1 < b1 then a1 else b1, if a1 < b1 ∨ (a1 = b1 ∧ a2.toInt < b2.toInt) then a2 else b2) := by
    by_cases h1 : a1 < b1
    · simp [reducer_argmin_f32_i32, Ideal.cmpf_def, Ideal.cmp, IntOp.ori, IntOp.andi, Scalar.select, h1, one_or]
    · by_cases h2 : a1 = b1
      · by_cases h3 : a2.toInt < b2.toInt
        · simp [reducer_argmin_f32_i32, Ideal.cmpf_def, Ideal.cmp, IntOp.ori, IntOp.andi, IntOp.cmpi, Scalar.select, h1, h2, h3, BitVec.slt]
        · simp [reducer_argmin_f32_i32, Ideal.cmpf_def, Ideal.cmp, IntOp.ori, IntOp.andi, IntOp.cmpi, Scalar.select, h1, h2, h3, BitVec.slt]
      · simp [reducer_argmin_f32_i32, Ideal.cmpf_def, Ideal.cmp, IntOp.ori, IntOp.andi, IntOp.cmpi, Scalar.select, h1, h2, BitVec.slt]
  rw [e]
  by_cases h1 : a1 < b1
  · rw [if_pos h1, if_pos (.inl h1)]
    exact ⟨.inl rfl, .rfl' _, .inl h1⟩
  · rw [if_neg h1]
    by_cases h2 : a1 = b1 ∧ a2.toInt < b2.toInt
    · rw [if_pos (.inr h2), ← h2.1]
      exact ⟨.inl rfl, .rfl' _, .inr ⟨rfl, h2.2.le⟩⟩
    · rw [if_neg (by rintro (h | h); exacts [h1 h, h2 h])]
      refine ⟨.inr rfl, ?_, .rfl' _⟩
      rcases lt_or_eq_of_le (not_lt.1 h1) with h | h
      · exact .inl h
      · exact .inr ⟨h, not_lt.1 fun hh => h2 ⟨h.symm, hh⟩⟩

/-- Folded over a list, the body gives one of the pairs, before every one of them. -/
theorem fold_pick : ∀ (l : List (EReal × BitVec 32)) (p : EReal × BitVec 32),
    ((l.foldl (reducer_argmin_f32_i32 (F := Ideal)) p : EReal × BitVec 32) = p ∨ (l.foldl (reducer_argmin_f32_i32 (F := Ideal)) p : EReal × BitVec 32) ∈ l)
      ∧ Before (l.foldl (reducer_argmin_f32_i32 (F := Ideal)) p) p
      ∧ ∀ q ∈ l, Before (l.foldl (reducer_argmin_f32_i32 (F := Ideal)) p) q
  | [], p => ⟨.inl rfl, .rfl' _, fun q hq => absurd hq List.not_mem_nil⟩
  | a :: l, p => by
    obtain ⟨h1, h2, h3⟩ := fold_pick l (reducer_argmin_f32_i32 (F := Ideal) p a)
    obtain ⟨g1, g2, g3⟩ := reducer_pick p a
    refine ⟨?_, h2.trans' g2, ?_⟩
    · rcases h1 with h1 | h1
      · rcases g1 with g1 | g1
        · exact .inl (h1.trans g1)
        · exact .inr (List.mem_cons.2 (.inl (h1.trans g1)))
      · exact .inr (List.mem_cons.2 (.inr h1))
    · intro q hq
      rcases List.mem_cons.1 hq with rfl | hq
      · exact h2.trans' g3
      · exact h3 q hq

theorem toInt_place (k : Fin 2048) : (BitVec.ofNat 32 k.val).toInt = (k.val : ℤ) := by
  have e1 : (BitVec.ofNat 32 k.val).toNat = k.val := by rw [BitVec.toNat_ofNat]; omega
  rw [BitVec.toInt_eq_toNat_cond, e1, if_pos (by omega)]

/-- A pair before all of a row's pairs, which is one of them or the start, has the first least place. -/
theorem first_of_before (D : Fin 2048 → EReal) (q : EReal × BitVec 32)
    (h1 : q = (⊤, 0#32) ∨ ∃ k, q = (D k, BitVec.ofNat 32 k.val)) (h2 : ∀ k : Fin 2048, Before q (D k, BitVec.ofNat 32 k.val)) :
    q.2 = BitVec.ofNat 32 (Rvq.first D).val := by
  rcases h1 with rfl | ⟨k, rfl⟩
  · have hall : ∀ k, D k = ⊤ := fun k => by
      rcases h2 k with h | ⟨h, _⟩
      · exact absurd h not_top_lt
      · exact h.symm
    have : Rvq.first D ≤ 0 := Rvq.first_min D 0 fun l => by rw [hall, hall]
    rw [show Rvq.first D = 0 from le_antisymm this (Fin.zero_le _)]
    rfl
  · have hle : ∀ l, D k ≤ D l := fun l => by
      rcases h2 l with h | ⟨h, _⟩
      · exact h.le
      · exact h.le
    have : Rvq.first D = k := Rvq.first_eq D k hle fun l hl => by
      rcases h2 l with h | ⟨_, h⟩
      · exact absurd h (by rw [hl]; exact lt_irrefl _)
      · rw [toInt_place, toInt_place] at h
        exact Fin.le_def.2 (by exact_mod_cast h)
    rw [this]

/-- The reduction at row `n`. -/
theorem argmin_at (x : FVec Ideal S65536x2048 .f32) (n : Fin 65536) (D : Fin 2048 → EReal) (hD : ∀ k, x (ix2 n k) = D k) :
    (Host.argReduce (reducer_argmin_f32_i32 (F := Ideal)) x (iotaInDim S65536x2048 32 1) (constant S_ .f32 0x7F800000#32) (constantI S_ 32 0#32)
      reducesTo_S65536x2048_S65536_d1 h_S_ (ix1 n)).2 = BitVec.ofNat 32 (Rvq.first D).val := by
  rw [Ideal.argReduce_eq_reduce2, Host.reduce2_eq_foldl_fiber]
  have hp : ((constant S_ .f32 0x7F800000#32 : FVec Ideal S_ .f32) (Shape.Idx.first h_S_), (constantI S_ 32 0#32) (Shape.Idx.first h_S_))
      = ((⊤ : EReal), (0#32 : BitVec 32)) := Prod.ext Rvq.ofBits_top rfl
  have hmem : ∀ q : EReal × BitVec 32, q ∈ Host.argReduceFiber x (iotaInDim S65536x2048 32 1) reducesTo_S65536x2048_S65536_d1 (ix1 n)
      ↔ ∃ k : Fin 2048, q = (D k, BitVec.ofNat 32 k.val) := by
    intro q
    unfold Host.argReduceFiber
    simp only [List.mem_map, List.mem_filter, List.mem_finRange, true_and, decide_eq_true_eq]
    constructor
    · rintro ⟨i, hi, rfl⟩
      refine ⟨S65536x2048.rowMajor.symm i 1, ?_⟩
      have h0 : S65536x2048.rowMajor.symm i 0 = n := by
        have := congrArg (fun j : S65536.Idx => (j 0).val) hi
        exact Fin.ext ((Shape.ReducesTo.drop_apply_val reducesTo_S65536x2048_S65536_d1 (S65536x2048.rowMajor.symm i) 0).symm.trans this)
      have hi' : S65536x2048.rowMajor.symm i = ix2 n (S65536x2048.rowMajor.symm i 1) := by
        funext a
        fin_cases a
        · exact h0
        · rfl
      refine Prod.ext ?_ rfl
      exact (congrArg x hi').trans (hD _)
    · rintro ⟨k, rfl⟩
      refine ⟨S65536x2048.rowMajor (ix2 n k), ?_, ?_⟩
      · rw [Equiv.symm_apply_apply]
        funext a
        fin_cases a
        exact Fin.ext (Shape.ReducesTo.drop_apply_val reducesTo_S65536x2048_S65536_d1 (ix2 n k) 0)
      · rw [Equiv.symm_apply_apply]
        exact Prod.ext (hD k) rfl
  have hf := fold_pick (Host.argReduceFiber x (iotaInDim S65536x2048 32 1) reducesTo_S65536x2048_S65536_d1 (ix1 n)) ((⊤ : EReal), (0#32 : BitVec 32))
  rw [hp]
  refine first_of_before D _ ?_ ?_
  · exact hf.1.imp_right fun h => (hmem _).1 h
  · exact fun k => hf.2.2 _ ((hmem _).2 ⟨k, rfl⟩)

end Cert.ReferenceIdeal.Loop
-- ==== Proof.RefStep.lean ====
/-
  One trip of the reference's loop over the extended reals: what each stretch of operations leaves, element by element.
-/
module

public import proofs.«01_k».proof.Proof.RefRun
public import proofs.«01_k».proof.Proof.RefArgmin
public import Idealize.ShloMosaic.Lib.Pointwise
public import Idealize.ShloMosaic.Lib.Claim
public import Idealize.ShloMosaic.Lib.StableHlo.ReadAt

@[expose] public section

set_option maxRecDepth 16384

noncomputable section

namespace Cert.ReferenceIdeal.Loop

open Cert.ReferenceIdeal Cert.ReferenceIdeal.Gen
open Idealize.ShloMosaic Idealize.ShloMosaic.TcCoe
open Idealize.SL.Sem
open Idealize.ShloMosaic.StableHlo

variable (V : Valuation τ sig (Elt Ideal))

/-! ## Slices at a run-time row -/

theorem slice_eq (x : Vec Ideal S8x2048x64 .f32) (st : Fin 3 → Int) (h : S8x2048x64.Slices (fun _ => 0) S1x2048x64) (k : Fin 8)
    (h0 : st 0 = (k.val : ℤ)) (h1 : st 1 = 0) (h2 : st 2 = 0) :
    Host.dynamicSlice S1x2048x64 x st h = fun j => x (ix3 (n0 := 8) (n1 := 2048) (n2 := 64) k (j 1) (j 2)) := by
  funext j
  rw [Host.dynamicSlice_apply]
  refine congrArg x ?_
  have e0 : Host.clampedStart S8x2048x64 S1x2048x64 h.1 st 0 = k.val :=
    Host.clampedStart_of_le h.1 st 0 k.val h0 (by have := k.isLt; show k.val + 1 ≤ 8; omega)
  have e1 : Host.clampedStart S8x2048x64 S1x2048x64 h.1 st 1 = 0 :=
    Host.clampedStart_of_le h.1 st 1 0 h1 (by show 0 + 2048 ≤ 2048; omega)
  have e2 : Host.clampedStart S8x2048x64 S1x2048x64 h.1 st 2 = 0 :=
    Host.clampedStart_of_le h.1 st 2 0 h2 (by show 0 + 64 ≤ 64; omega)
  have hj : (j 0).val = 0 := by have : (j 0).val < 1 := (j 0).isLt; omega
  funext b
  fin_cases b
  · exact Fin.ext (by show Host.clampedStart S8x2048x64 S1x2048x64 h.1 st 0 + (j 0).val = k.val; rw [e0, hj, Nat.add_zero])
  · exact Fin.ext (by show Host.clampedStart S8x2048x64 S1x2048x64 h.1 st 1 + (j 1).val = (j 1).val; rw [e1, Nat.zero_add])
  · exact Fin.ext (by show Host.clampedStart S8x2048x64 S1x2048x64 h.1 st 2 + (j 2).val = (j 2).val; rw [e2, Nat.zero_add])

theorem update_eq (x : Vec Ideal S8x16x4096 .i32) (u : Vec Ideal S1x16x4096 .i32) (st : Fin 3 → Int) (h : S8x16x4096.Slices (fun _ => 0) S1x16x4096)
    (k : Fin 8) (h0 : st 0 = (k.val : ℤ)) (h1 : st 1 = 0) (h2 : st 2 = 0) (i : Fin 8) (b : Fin 16) (j : Fin 4096) :
    Host.dynamicUpdateSlice x u st h (ix3 (n0 := 8) (n1 := 16) (n2 := 4096) i b j)
      = if i = k then u (ix3 (n0 := 1) (n1 := 16) (n2 := 4096) 0 b j) else x (ix3 (n0 := 8) (n1 := 16) (n2 := 4096) i b j) := by
  rw [Host.dynamicUpdateSlice_apply]
  have e0 : Host.clampedStart S8x16x4096 S1x16x4096 h.1 st 0 = k.val :=
    Host.clampedStart_of_le h.1 st 0 k.val h0 (by have := k.isLt; show k.val + 1 ≤ 8; omega)
  have e1 : Host.clampedStart S8x16x4096 S1x16x4096 h.1 st 1 = 0 :=
    Host.clampedStart_of_le h.1 st 1 0 h1 (by show 0 + 16 ≤ 16; omega)
  have e2 : Host.clampedStart S8x16x4096 S1x16x4096 h.1 st 2 = 0 :=
    Host.clampedStart_of_le h.1 st 2 0 h2 (by show 0 + 4096 ≤ 4096; omega)
  by_cases hik : i = k
  · rw [if_pos hik, dif_pos]
    · refine congrArg u ?_
      funext a
      fin_cases a
      · exact Subsingleton.elim (α := Fin 1) _ _
      · exact Fin.ext (by show b.val - Host.clampedStart S8x16x4096 S1x16x4096 h.1 st 1 = b.val; rw [e1, Nat.sub_zero])
      · exact Fin.ext (by show j.val - Host.clampedStart S8x16x4096 S1x16x4096 h.1 st 2 = j.val; rw [e2, Nat.sub_zero])
    · intro a
      fin_cases a
      · show Host.clampedStart S8x16x4096 S1x16x4096 h.1 st 0 ≤ i.val ∧ i.val < Host.clampedStart S8x16x4096 S1x16x4096 h.1 st 0 + 1
        rw [e0, hik]; omega
      · show Host.clampedStart S8x16x4096 S1x16x4096 h.1 st 1 ≤ b.val ∧ b.val < Host.clampedStart S8x16x4096 S1x16x4096 h.1 st 1 + 16
        rw [e1]; omega
      · show Host.clampedStart S8x16x4096 S1x16x4096 h.1 st 2 ≤ j.val ∧ j.val < Host.clampedStart S8x16x4096 S1x16x4096 h.1 st 2 + 4096
        rw [e2]; omega
  · rw [if_neg hik, dif_neg]
    intro hh
    have := hh 0
    have g : Host.clampedStart S8x16x4096 S1x16x4096 h.1 st 0 ≤ i.val ∧ i.val < Host.clampedStart S8x16x4096 S1x16x4096 h.1 st 0 + 1 := this
    rw [e0] at g
    exact hik (Fin.ext (by omega))

/-! ## The codebook of the trip -/

theorem toInt_ofNat_lt (k : ℕ) (h : k < 2048) : (BitVec.ofNat 32 k).toInt = (k : ℤ) := toInt_place ⟨k, h⟩

theorem book_read (k : Fin 8) (h : V (Proc.devRef .tc main_v2_1) = fun _ => BitVec.ofNat 32 k.val) (a : Fin 2048) (d : Fin 64) :
    (after while0Ops0 V (Proc.devRef .tc main_while0b_v4) : Vec Ideal S2048x64 .f32) (ix2 a d)
      = (V (Proc.devRef .tc main_v2_0) : Vec Ideal S8x2048x64 .f32) (ix3 k a d) := by
  have r0 : after (while0Ops0.take 2) V (Proc.devRef .tc main_v2_1) = V (Proc.devRef .tc main_v2_1) := by
    simp only [while0Ops0, List.take]; after_results
  have r1 : after (while0Ops0.take 2) V (Proc.devRef .tc main_while0b_call0_c) = constantI S_ 32 0#32 := by
    simp only [while0Ops0, List.take]; after_results; rfl
  have r2 : after (while0Ops0.take 2) V (Proc.devRef .tc main_while0b_call0_c_0) = constantI S_ 32 0#32 := by
    simp only [while0Ops0, List.take]; after_results; rfl
  after_results
  simp -implicitDefEqProofs only [TRef.toBuf, TRef.ofBuf, cast_cast, cast_eq]
  rw [slice_eq _ _ _ k ?_ ?_ ?_]
  · clean_types
    pointwise
  · exact (congrArg BitVec.toInt (congrFun (r0.trans h) (Shape.Idx.first h_S_))).trans (toInt_ofNat_lt k.val (by omega))
  · exact congrArg BitVec.toInt (congrFun r1 (Shape.Idx.first h_S_))
  · exact congrArg BitVec.toInt (congrFun r2 (Shape.Idx.first h_S_))

theorem upd_read (k : Fin 8) (h : V (Proc.devRef .tc main_v2_1) = fun _ => BitVec.ofNat 32 k.val) (i : Fin 8) (b : Fin 16) (j : Fin 4096) :
    (after while0Ops0_5 V (Proc.devRef .tc main_while0b_v34) : Vec Ideal S8x16x4096 .i32) (ix3 i b j)
      = if i = k then (V (Proc.devRef .tc main_while0b_v25) : Vec Ideal S16x4096 .i32) (ix2 b j) else (V (Proc.devRef .tc main_v2_5) : Vec Ideal S8x16x4096 .i32) (ix3 i b j) := by
  have r0 : after (while0Ops0_5.take 3) V (Proc.devRef .tc main_v2_1) = V (Proc.devRef .tc main_v2_1) := by
    simp only [while0Ops0_5, List.take]; after_results
  have r1 : after (while0Ops0_5.take 3) V (Proc.devRef .tc main_while0b_call3_c) = constantI S_ 32 0#32 := by
    simp only [while0Ops0_5, List.take]; after_results; rfl
  have r2 : after (while0Ops0_5.take 3) V (Proc.devRef .tc main_while0b_call3_c_0) = constantI S_ 32 0#32 := by
    simp only [while0Ops0_5, List.take]; after_results; rfl
  after_results
  simp -implicitDefEqProofs only [TRef.toBuf, TRef.ofBuf, cast_cast, cast_eq]
  rw [update_eq _ _ _ _ k ?_ ?_ ?_]
  · clean_types
    pointwise
  · exact (congrArg BitVec.toInt (congrFun (r0.trans h) (Shape.Idx.first h_S_))).trans (toInt_ofNat_lt k.val (by omega))
  · exact congrArg BitVec.toInt (congrFun r1 (Shape.Idx.first h_S_))
  · exact congrArg BitVec.toInt (congrFun r2 (Shape.Idx.first h_S_))

theorem dist_read (n : Fin 65536) (k : Fin 2048) (v : Fin 64 → EReal) (B : Fin 2048 → Fin 64 → EReal)
    (hv : ∀ d, (V (Proc.devRef .tc main_v2_2) : Vec Ideal S16x64x4096 .f32) (ix3 ⟨n.val / 4096, by omega⟩ d ⟨n.val % 4096, by omega⟩) = v d)
    (hB : ∀ k d, (V (Proc.devRef .tc main_while0b_v4) : Vec Ideal S2048x64 .f32) (ix2 k d) = B k d) :
    (after while0Ops0_1 V (Proc.devRef .tc main_while0b_v20) : Vec Ideal S65536x2048 .f32) (ix2 n k)
      = ((∑ d, v d * v d) - ∑ d, 2 * v d * B k d) + ∑ d, B k d * B k d := by
  after_results
  pointwise
  simp only [Rvq.ofBits_2, hv, hB]

theorem argmin_read (n : Fin 65536) (D : Fin 2048 → EReal) (hD : ∀ k, (V (Proc.devRef .tc main_while0b_v20) : Vec Ideal S65536x2048 .f32) (ix2 n k) = D k) :
    (after while0Ops0_2 V (Proc.devRef .tc main_while0b_v21) : Vec Ideal S65536 .i32) (ix1 n) = BitVec.ofNat 32 (Rvq.first D).val := by
  after_results
  simp -implicitDefEqProofs only [TRef.toBuf, TRef.ofBuf, cast_cast, cast_eq]
  exact argmin_at _ n D hD

end Cert.ReferenceIdeal.Loop
-- ==== Proof.RefFour.lean ====
/-
  What one trip leaves in the residual, the sum of the rows, the codes and the loss.
-/
module

public import proofs.«01_k».proof.Proof.RefStep
public import Idealize.ShloMosaic.Lib.Pointwise
public import Idealize.ShloMosaic.Lib.StableHlo.ReadAt

@[expose] public section

set_option maxRecDepth 16384

noncomputable section

namespace Cert.ReferenceIdeal.Loop

open Cert.ReferenceIdeal Cert.ReferenceIdeal.Gen
open Idealize.ShloMosaic Idealize.ShloMosaic.TcCoe
open Idealize.SL.Sem
open Idealize.ShloMosaic.StableHlo

variable (V : Valuation τ sig (Elt Ideal))

/-- The row number of column `j` of image `b`. -/
def rowAt (b : Fin 16) (j : Fin 4096) : Fin 65536 := ⟨b.val * 4096 + j.val, by omega⟩

theorem codes_read (b : Fin 16) (j : Fin 4096) :
    (after while0Ops0_4 V (Proc.devRef .tc main_while0b_v25) : Vec Ideal S16x4096 .i32) (ix2 b j)
      = (V (Proc.devRef .tc main_while0b_v21) : Vec Ideal S65536 .i32) (ix1 (rowAt b j)) := by
  after_results
  clean_types
  pointwise
  rfl

variable (R Q : Fin 16 → Fin 64 → Fin 4096 → EReal)
  (hR : ∀ b d j, (V (Proc.devRef .tc main_v2_2) : Vec Ideal S16x64x4096 .f32) (ix3 b d j) = R b d j)
  (hQ : ∀ b d j, (V (Proc.devRef .tc main_while0b_v22) : Vec Ideal S65536x64 .f32) (ix2 (rowAt b j) d) = Q b d j)

include hR hQ

theorem back_read (b : Fin 16) (d : Fin 64) (j : Fin 4096) :
    (after while0Ops0_4 V (Proc.devRef .tc main_while0b_v29) : Vec Ideal S16x64x4096 .f32) (ix3 b d j) = R b d j - Q b d j := by
  rw [← hR, ← hQ]
  after_results
  clean_types
  pointwise
  rfl

theorem tot_read (b : Fin 16) (d : Fin 64) (j : Fin 4096) (T : EReal)
    (hT : (V (Proc.devRef .tc main_v2_3) : Vec Ideal S16x64x4096 .f32) (ix3 b d j) = T) :
    (after while0Ops0_4 V (Proc.devRef .tc main_while0b_v28) : Vec Ideal S16x64x4096 .f32) (ix3 b d j) = T + (R b d j + (Q b d j - R b d j)) := by
  rw [← hR, ← hQ, ← hT]
  after_results
  clean_types
  pointwise
  rfl

theorem loss_read (L : EReal) (hL : V (Proc.devRef .tc main_v2_4) = fun _ => L) :
    (after while0Ops0_4 V (Proc.devRef .tc main_while0b_v33) : Vec Ideal S_ .f32)
      = fun _ => L + Ideal.div (∑ b, ∑ d, ∑ j, (R b d j - Q b d j) * (R b d j - Q b d j)) (Ideal.ofBits .f32 0x4A800000#32) := by
  have e : (after while0Ops0_4 V (Proc.devRef .tc main_while0b_v33) : Vec Ideal S_ .f32) (fun a => a.elim0)
      = L + Ideal.div (∑ b, ∑ d, ∑ j, (R b d j - Q b d j) * (R b d j - Q b d j)) (Ideal.ofBits .f32 0x4A800000#32) := by
    simp only [← hR, ← hQ]
    rw [← show V (Proc.devRef .tc main_v2_4) (fun a => a.elim0) = L from congrFun hL _]
    after_results
    clean_types
    pointwise
    rfl
  funext z
  rw [← e]
  exact congrArg _ (funext fun a => a.elim0)

end Cert.ReferenceIdeal.Loop
-- ==== Proof.RefTake.lean ====
/-
  Taking rows of a codebook by number.
-/
module

public import proofs.«01_k».proof.Proof.RefArgmin
public import Idealize.ShloMosaic.Lib.Pointwise
public import Idealize.ShloMosaic.Lib.StableHlo.ReadAt

@[expose] public section

set_option maxRecDepth 16384

noncomputable section

namespace Cert.ReferenceIdeal.Loop

open Cert.ReferenceIdeal Cert.ReferenceIdeal.Gen
open Idealize.ShloMosaic Idealize.ShloMosaic.TcCoe
open Idealize.SL.Sem
open Idealize.ShloMosaic.StableHlo

theorem gather_si (n : Fin 65536) (d : Fin 64) (h : [(0 : Fin 2)].idxOf (0 : Fin 2) < [(0 : Fin 2)].length) :
    GatherDims.siIdx gather_S2048x64_S65536x1_S65536x64_1_0_n_n_0_1_164 (ix2 (n0 := 65536) (n1 := 64) n d) ⟨[(0 : Fin 2)].idxOf (0 : Fin 2), h⟩ = ix2 (n0 := 65536) (n1 := 1) n 0 := by
  funext a
  fin_cases a
  · rfl
  · exact Subsingleton.elim (α := Fin 1) _ _

/-- The gather at row `n`, whose number is `c`. -/
theorem gather_at (x : Vec Ideal S2048x64 .f32) (idx : IVec S65536x1 32) (n : Fin 65536) (d : Fin 64) (c : Fin 2048)
    (h : idx (ix2 n 0) = BitVec.ofNat 32 c.val) : Host.gather gather_S2048x64_S65536x1_S65536x64_1_0_n_n_0_1_164 x idx (ix2 n d) = x (ix2 c d) := by
  show x (GatherDims.operandIdx gather_S2048x64_S65536x1_S65536x64_1_0_n_n_0_1_164 (ix2 (n0 := 65536) (n1 := 64) n d) idx) = _
  refine congrArg x ?_
  funext a
  fin_cases a
  · refine Fin.ext ?_
    show GatherDims.start gather_S2048x64_S65536x1_S65536x64_1_0_n_n_0_1_164 (ix2 (n0 := 65536) (n1 := 64) n d) idx 0 + GatherDims.batchCoord gather_S2048x64_S65536x1_S65536x64_1_0_n_n_0_1_164 (ix2 (n0 := 65536) (n1 := 64) n d) 0
      + GatherDims.offCoord gather_S2048x64_S65536x1_S65536x64_1_0_n_n_0_1_164 (ix2 (n0 := 65536) (n1 := 64) n d) 0 = c.val
    rw [GatherDims.batchCoord_eq_zero _ _ _ (by decide), GatherDims.offCoord_eq_zero _ _ _ (by decide)]
    unfold GatherDims.start
    rw [dif_pos (by decide)]
    have e := gather_si n d (by decide)
    show min (idx (GatherDims.siIdx gather_S2048x64_S65536x1_S65536x64_1_0_n_n_0_1_164 (ix2 (n0 := 65536) (n1 := 64) n d) ⟨[(0 : Fin 2)].idxOf (0 : Fin 2), _⟩)).toInt.toNat (2048 - 1) + 0 + 0 = c.val
    rw [e, h, toInt_place]
    have := c.isLt
    omega
  · refine Fin.ext ?_
    show GatherDims.start gather_S2048x64_S65536x1_S65536x64_1_0_n_n_0_1_164 (ix2 (n0 := 65536) (n1 := 64) n d) idx 1 + GatherDims.batchCoord gather_S2048x64_S65536x1_S65536x64_1_0_n_n_0_1_164 (ix2 (n0 := 65536) (n1 := 64) n d) 1
      + GatherDims.offCoord gather_S2048x64_S65536x1_S65536x64_1_0_n_n_0_1_164 (ix2 (n0 := 65536) (n1 := 64) n d) 1 = d.val
    rw [GatherDims.batchCoord_eq_zero _ _ _ (by decide)]
    unfold GatherDims.start
    rw [dif_neg (by decide), Nat.add_zero, Nat.zero_add]
    unfold GatherDims.offCoord
    rw [dif_pos (by decide)]
    rfl

theorem take_read (V : Valuation τ sig (Elt Ideal)) (n : Fin 65536) (d : Fin 64) (c : Fin 2048)
    (h : (V (Proc.devRef .tc main_while0b_v21) : Vec Ideal S65536 .i32) (ix1 n) = BitVec.ofNat 32 c.val) :
    (after while0Ops0_3 V (Proc.devRef .tc main_while0b_v22) : Vec Ideal S65536x64 .f32) (ix2 n d)
      = (V (Proc.devRef .tc main_while0b_v4) : Vec Ideal S2048x64 .f32) (ix2 c d) := by
  have h1 : IntOp.cmpi .slt (BitVec.ofNat 32 c.val) 0#32 = 0#1 := by
    have e : decide ((c.val : ℤ) < 0) = false := decide_eq_false (by omega)
    simp only [IntOp.cmpi, BitVec.slt, toInt_place, show (0#32 : BitVec 32).toInt = 0 from rfl, e]
    rfl
  have h2 : IntOp.cmpi .sge (BitVec.ofNat 32 c.val) 0#32 = 1#1 := by
    simp [IntOp.cmpi, BitVec.sle, toInt_place]
  have h3 : IntOp.cmpi .sle (BitVec.ofNat 32 c.val) 2047#32 = 1#1 := by
    have := c.isLt
    have e : (2047#32 : BitVec 32).toInt = 2047 := by decide
    have e' : decide ((c.val : ℤ) ≤ 2047) = true := decide_eq_true (by omega)
    simp only [IntOp.cmpi, BitVec.sle, toInt_place, e, e']
    rfl
  after_results
  simp -implicitDefEqProofs only [TRef.toBuf, TRef.ofBuf, cast_cast, cast_eq]
  clean_types
  pointwise
  rw [h, h1, show Scalar.select (0#1) (IntOp.addi (BitVec.ofNat 32 c.val) 2048#32) (BitVec.ofNat 32 c.val) = BitVec.ofNat 32 c.val from rfl,
    h2, h3, Finset.univ_unique, Finset.fold_singleton]
  refine (show Scalar.select (1#1) _ _ = _ from rfl).trans (gather_at _ _ n d c ?_)
  pointwise
  rw [h, h1]
  rfl

end Cert.ReferenceIdeal.Loop
-- ==== Proof.RefTrip.lean ====
/-
  One trip of the reference's loop carries the residual, the sum of the rows, the codes and the loss one codebook on.
-/
module

public import proofs.«01_k».proof.Proof.RefFour
public import proofs.«01_k».proof.Proof.RefTake
public import proofs.«01_k».proof.Proof.SpecReal

@[expose] public section

set_option maxRecDepth 16384

noncomputable section

namespace Cert.ReferenceIdeal.Loop

open Cert.ReferenceIdeal Cert.ReferenceIdeal.Gen
open Idealize.ShloMosaic Idealize.ShloMosaic.TcCoe
open Idealize.SL.Sem
open Idealize.ShloMosaic.StableHlo

variable {V : Valuation τ sig (Elt Ideal)} {X : Fin 16 → Fin 4096 → Fin 64 → EReal} {B : ℕ → Fin 2048 → Fin 64 → EReal} {k : ℕ}

/-- The contents of the loop's carried buffers before trip `k`: the data are `X` by image and column, the codebooks `B`. -/
structure Inv (V : Valuation τ sig (Elt Ideal)) (X : Fin 16 → Fin 4096 → Fin 64 → EReal) (B : ℕ → Fin 2048 → Fin 64 → EReal) (k : ℕ) : Prop where
  books : ∀ (i : Fin 8) a d, (V (Proc.devRef .tc main_v2_0) : Vec Ideal S8x2048x64 .f32) (ix3 i a d) = B i.val a d
  ctr : V (Proc.devRef .tc main_v2_1) = fun _ => BitVec.ofNat 32 k
  res : ∀ b d j, (V (Proc.devRef .tc main_v2_2) : Vec Ideal S16x64x4096 .f32) (ix3 b d j) = Rvq.res (X b j) B k d
  tot : ∀ b d j, (V (Proc.devRef .tc main_v2_3) : Vec Ideal S16x64x4096 .f32) (ix3 b d j) = Rvq.tot (X b j) B k d
  loss : V (Proc.devRef .tc main_v2_4) = fun _ => Rvq.lossAt X B k
  codes : ∀ (i : Fin 8) b j, i.val < k →
    (V (Proc.devRef .tc main_v2_5) : Vec Ideal S8x16x4096 .i32) (ix3 i b j) = BitVec.ofNat 32 (Rvq.code (X b j) B i.val).val

/-! ## What each stretch leaves alone -/

/-- The loop's carried buffers. -/
def carried : List (Ref sig .tc) := [main_v2_0, main_v2_1, main_v2_2, main_v2_3, main_v2_4, main_v2_5]

set_option maxRecDepth 100000 in
theorem carry_res (V : Valuation τ sig (Elt Ideal)) : after while0Ops0_6 V (Proc.devRef .tc main_v2_2) = V (Proc.devRef .tc main_while0b_v29) := by
  after_results; rfl
set_option maxRecDepth 100000 in
theorem carry_tot (V : Valuation τ sig (Elt Ideal)) : after while0Ops0_6 V (Proc.devRef .tc main_v2_3) = V (Proc.devRef .tc main_while0b_v28) := by
  after_results; rfl
set_option maxRecDepth 100000 in
theorem carry_loss (V : Valuation τ sig (Elt Ideal)) : after while0Ops0_6 V (Proc.devRef .tc main_v2_4) = V (Proc.devRef .tc main_while0b_v33) := by
  after_results; rfl
set_option maxRecDepth 100000 in
theorem carry_codes (V : Valuation τ sig (Elt Ideal)) : after while0Ops0_6 V (Proc.devRef .tc main_v2_5) = V (Proc.devRef .tc main_while0b_v34) := by
  after_results; rfl

/-! ## One trip -/

theorem rowAt_div (b : Fin 16) (j : Fin 4096) (h : (rowAt b j).val / 4096 < 16) : (⟨(rowAt b j).val / 4096, h⟩ : Fin 16) = b :=
  Fin.ext (by show (b.val * 4096 + j.val) / 4096 = b.val; omega)
theorem rowAt_mod (b : Fin 16) (j : Fin 4096) (h : (rowAt b j).val % 4096 < 4096) : (⟨(rowAt b j).val % 4096, h⟩ : Fin 4096) = j :=
  Fin.ext (by show (b.val * 4096 + j.val) % 4096 = j.val; omega)

/-- The condition and the selecting stretches leave the carried buffers alone, the chosen code of each column in the index
    buffer, and the chosen row in the row buffer. -/
structure Chosen (V : Valuation τ sig (Elt Ideal)) (X : Fin 16 → Fin 4096 → Fin 64 → EReal) (B : ℕ → Fin 2048 → Fin 64 → EReal) (k : ℕ) : Prop where
  inv : Inv V X B k
  place : ∀ b j, (V (Proc.devRef .tc main_while0b_v21) : Vec Ideal S65536 .i32) (ix1 (rowAt b j)) = BitVec.ofNat 32 (Rvq.code (X b j) B k).val
  row : ∀ b d j, (V (Proc.devRef .tc main_while0b_v22) : Vec Ideal S65536x64 .f32) (ix2 (rowAt b j) d) = B k (Rvq.code (X b j) B k) d

/-- A stretch that writes none of the carried buffers leaves their contents. -/
theorem Inv.skip (h : Inv V X B k) {ops : List (HloOp τ sig (Elt Ideal))} {W : List (Ref sig .tc)}
    (hW : ops.Forall fun op => op.writes ⊆ (W.map (Proc.devRef (τ := τ) .tc)).toFinset) (hd : ∀ b ∈ carried, b ∉ W) :
    Inv (after ops V) X B k := by
  have e : ∀ b ∈ carried, after ops V (Proc.devRef .tc b) = V (Proc.devRef .tc b) := fun b hb => after_of_writes_sub ops V hW (hd b hb)
  exact {
    books := fun i a d => by rw [e main_v2_0 (by decide)]; exact h.books i a d
    ctr := by rw [e main_v2_1 (by decide)]; exact h.ctr
    res := fun b d j => by rw [e main_v2_2 (by decide)]; exact h.res b d j
    tot := fun b d j => by rw [e main_v2_3 (by decide)]; exact h.tot b d j
    loss := by rw [e main_v2_4 (by decide)]; exact h.loss
    codes := fun i b j hi => by rw [e main_v2_5 (by decide)]; exact h.codes i b j hi }

theorem Inv.chosen (h : Inv V X B k) (hk : k < 8) (hX : ∀ b j, Rvq.Real' (X b j)) (hB : ∀ i a, Rvq.Real' (B i a)) :
    Chosen (after while0Ops0_3 (after while0Ops0_2 (after while0Ops0_1 (after while0Ops0 (after condOps V))))) X B k := by
  have h0 : Inv (after condOps V) X B k := h.skip condOps_writes (by decide +kernel)
  generalize after condOps V = V0 at h0 ⊢
  have b1 : ∀ a d, (after while0Ops0 V0 (Proc.devRef .tc main_while0b_v4) : Vec Ideal S2048x64 .f32) (ix2 a d) = B k a d := fun a d =>
    (book_read V0 ⟨k, hk⟩ h0.ctr a d).trans (h0.books ⟨k, hk⟩ a d)
  have h1 : Inv (after while0Ops0 V0) X B k := h0.skip while0Ops0_writes (by decide +kernel)
  generalize after while0Ops0 V0 = V1 at b1 h1 ⊢
  have d2 : ∀ b j a, (after while0Ops0_1 V1 (Proc.devRef .tc main_while0b_v20) : Vec Ideal S65536x2048 .f32) (ix2 (rowAt b j) a)
      = Rvq.dist (Rvq.res (X b j) B k) (B k) a := fun b j a =>
    (dist_read V1 (rowAt b j) a (Rvq.res (X b j) B k) (B k) (fun d => by rw [rowAt_div, rowAt_mod]; exact h1.res b d j) b1).trans
      (Rvq.dist_terms _ _ (Rvq.res_real (hX b j) hB k) (hB k) a)
  have b2 : ∀ a d, (after while0Ops0_1 V1 (Proc.devRef .tc main_while0b_v4) : Vec Ideal S2048x64 .f32) (ix2 a d) = B k a d := fun a d => by
    rw [after_of_writes_sub (r := main_while0b_v4) while0Ops0_1 _ while0Ops0_1_writes (by decide +kernel)]; exact b1 a d
  have h2 : Inv (after while0Ops0_1 V1) X B k := h1.skip while0Ops0_1_writes (by decide +kernel)
  generalize after while0Ops0_1 V1 = V2 at b2 d2 h2 ⊢
  have p3 : ∀ b j, (after while0Ops0_2 V2 (Proc.devRef .tc main_while0b_v21) : Vec Ideal S65536 .i32) (ix1 (rowAt b j))
      = BitVec.ofNat 32 (Rvq.code (X b j) B k).val := fun b j => argmin_read V2 (rowAt b j) _ (d2 b j)
  have b3 : ∀ a d, (after while0Ops0_2 V2 (Proc.devRef .tc main_while0b_v4) : Vec Ideal S2048x64 .f32) (ix2 a d) = B k a d := fun a d => by
    rw [after_of_writes_sub (r := main_while0b_v4) while0Ops0_2 _ while0Ops0_2_writes (by decide +kernel)]; exact b2 a d
  have h3 : Inv (after while0Ops0_2 V2) X B k := h2.skip while0Ops0_2_writes (by decide +kernel)
  generalize after while0Ops0_2 V2 = V3 at b3 p3 h3 ⊢
  exact {
    inv := h3.skip while0Ops0_3_writes (by decide +kernel)
    place := fun b j => by rw [after_of_writes_sub (r := main_while0b_v21) while0Ops0_3 _ while0Ops0_3_writes (by decide +kernel)]; exact p3 b j
    row := fun b d j => (take_read V3 (rowAt b j) d _ (p3 b j)).trans (b3 _ d) }

theorem Chosen.step (h : Chosen V X B k) (hk : k < 8) (hX : ∀ b j, Rvq.Real' (X b j)) (hB : ∀ i a, Rvq.Real' (B i a)) :
    Inv (after while0Ops0_6 (after while0Ops0_5 (after while0Ops0_4 V))) X B (k + 1) where
  books i a d := by rw [after_of_writes_sub (r := main_v2_0) while0Ops0_6 _ while0Ops0_6_writes (by decide +kernel), after_of_writes_sub (r := main_v2_0) while0Ops0_5 _ while0Ops0_5_writes (by decide +kernel), after_of_writes_sub (r := main_v2_0) while0Ops0_4 _ while0Ops0_4_writes (by decide +kernel)]; exact h.inv.books i a d
  ctr := by
    rw [ctr_step, after_of_writes_sub (r := main_v2_1) while0Ops0_5 _ while0Ops0_5_writes (by decide +kernel), after_of_writes_sub (r := main_v2_1) while0Ops0_4 _ while0Ops0_4_writes (by decide +kernel), h.inv.ctr]
    funext z
    show BitVec.ofNat 32 k + 1#32 = BitVec.ofNat 32 (k + 1)
    rw [BitVec.ofNat_add]
  res b d j := by
    rw [carry_res, after_of_writes_sub (r := main_while0b_v29) while0Ops0_5 _ while0Ops0_5_writes (by decide +kernel)]
    exact back_read V (fun b d j => Rvq.res (X b j) B k d) (fun b d j => B k (Rvq.code (X b j) B k) d) h.inv.res h.row b d j
  tot b d j := by
    rw [carry_tot, after_of_writes_sub (r := main_while0b_v28) while0Ops0_5 _ while0Ops0_5_writes (by decide +kernel)]
    refine (tot_read V (fun b d j => Rvq.res (X b j) B k d) (fun b d j => B k (Rvq.code (X b j) B k) d) h.inv.res h.row b d j _ (h.inv.tot b d j)).trans ?_
    exact congrArg (Rvq.tot (X b j) B k d + ·) (Rvq.add_sub_back _ _ (Rvq.res_real (hX b j) hB k d) (hB k _ d))
  loss := by
    rw [carry_loss, after_of_writes_sub (r := main_while0b_v33) while0Ops0_5 _ while0Ops0_5_writes (by decide +kernel)]
    exact loss_read V (fun b d j => Rvq.res (X b j) B k d) (fun b d j => B k (Rvq.code (X b j) B k) d) h.inv.res h.row _ h.inv.loss
  codes i b j hi := by
    rw [carry_codes]
    refine (upd_read (after while0Ops0_4 V) ⟨k, hk⟩ (by rw [after_of_writes_sub (r := main_v2_1) while0Ops0_4 _ while0Ops0_4_writes (by decide +kernel)]; exact h.inv.ctr) i b j).trans ?_
    by_cases e : i = ⟨k, hk⟩
    · rw [if_pos e, codes_read, h.place, e]
    · rw [if_neg e, after_of_writes_sub (r := main_v2_5) while0Ops0_4 _ while0Ops0_4_writes (by decide +kernel)]
      have : i.val ≠ k := fun h => e (Fin.ext h)
      exact h.inv.codes i b j (by omega)

/-- One trip. -/
theorem Inv.step (h : Inv V X B k) (hk : k < 8) (hX : ∀ b j, Rvq.Real' (X b j)) (hB : ∀ i a, Rvq.Real' (B i a)) :
    Inv (afterL bodyI (after condOps V)) X B (k + 1) := by
  simp only [afterL_cons, afterL_nil]
  exact (h.chosen hk hX hB).step hk hX hB

end Cert.ReferenceIdeal.Loop
-- ==== Proof.RefResult.lean ====
/-
  The reference's results over the extended reals, on real arguments.
-/
module

public import proofs.«01_k».proof.Proof.RefTrip
public import Idealize.ShloMosaic.Lib.Quiescent
public import Idealize.ShloMosaic.Lib.Claim

@[expose] public section

set_option maxRecDepth 16384

noncomputable section

namespace Cert.ReferenceIdeal.Loop

open Cert.ReferenceIdeal Cert.ReferenceIdeal.Gen
open Idealize.ShloMosaic Idealize.ShloMosaic.TcCoe
open Idealize.SL.Sem
open Idealize.ShloMosaic.StableHlo

variable (m : (ℓ : Loc nD τ sig) → Buf (Elt Ideal) ℓ) (c : Dev nD)

/-- Device `c`'s data and codebooks. -/
abbrev argX : Vec Ideal S16x64x4096 .f32 := m ((c : Thread nD τ).loc main_arg0)
abbrev argC : Vec Ideal S8x2048x64 .f32 := m ((c : Thread nD τ).loc main_arg1)

/-- The data by image and column; the codebooks by number. -/
def dataX : Fin 16 → Fin 4096 → Fin 64 → EReal := fun b j d => argX m c (ix3 b d j)
def bookB (i : ℕ) : Fin 2048 → Fin 64 → EReal := fun k d => argC m c (ix3 (n0 := 8) (n1 := 2048) (n2 := 64) ⟨i % 8, Nat.mod_lt _ (by decide)⟩ k d)

/-! ## The arguments are never written -/

/-- The buffers the program writes, by stretch. -/
def written : List (List (Ref sig .tc)) := [hostOps0_W, condOps_W, while0Ops0_W, while0Ops0_1_W, while0Ops0_2_W, while0Ops0_3_W, while0Ops0_4_W, while0Ops0_5_W,
  while0Ops0_6_W, hostOps0_1_W]

variable {b : Ref sig .tc} (hb : ∀ W ∈ written, b ∉ W)

include hb in
/-- A buffer that no stretch writes holds what it held at launch before every trip. -/
theorem kept_at : ∀ k, atK m k c (Proc.devRef .tc b) = m ((c : Thread nD τ).loc b)
  | 0 => by
    rw [show atK m 0 c = afterL preI (launchContents m c) from rfl]
    simp only [afterL_cons, afterL_nil]
    rw [after_of_writes_sub hostOps0 _ hostOps0_writes (hb _ (by simp [written]))]
  | k + 1 => by
    rw [show atK m (k + 1) c = afterL bodyI (after condOps (atK m k c)) from rfl]
    simp only [afterL_cons, afterL_nil]
    rw [after_of_writes_sub while0Ops0_6 _ while0Ops0_6_writes (hb _ (by simp [written])),
      after_of_writes_sub while0Ops0_5 _ while0Ops0_5_writes (hb _ (by simp [written])),
      after_of_writes_sub while0Ops0_4 _ while0Ops0_4_writes (hb _ (by simp [written])),
      after_of_writes_sub while0Ops0_3 _ while0Ops0_3_writes (hb _ (by simp [written])),
      after_of_writes_sub while0Ops0_2 _ while0Ops0_2_writes (hb _ (by simp [written])),
      after_of_writes_sub while0Ops0_1 _ while0Ops0_1_writes (hb _ (by simp [written])),
      after_of_writes_sub while0Ops0 _ while0Ops0_writes (hb _ (by simp [written])),
      after_of_writes_sub condOps _ condOps_writes (hb _ (by simp [written])), kept_at k]

include hb in
/-- And at the end. -/
theorem kept_final : finalContents condOps preI bodyI postI 8 m c (Proc.devRef .tc b) = m ((c : Thread nD τ).loc b) := by
  simp only [finalContents, afterL_cons, afterL_nil]
  rw [after_of_writes_sub hostOps0_1 _ hostOps0_1_writes (hb _ (by simp [written])),
    after_of_writes_sub condOps _ condOps_writes (hb _ (by simp [written]))]
  exact kept_at m c hb 8

theorem arg0_final : finalContents condOps preI bodyI postI 8 m c (Proc.devRef .tc main_arg0) = m ((c : Thread nD τ).loc main_arg0) :=
  kept_final m c (by decide +kernel)

theorem arg1_final : finalContents condOps preI bodyI postI 8 m c (Proc.devRef .tc main_arg1) = m ((c : Thread nD τ).loc main_arg1) :=
  kept_final m c (by decide +kernel)

/-! ## The loop -/

theorem inv_entry : Inv (entryContents preI m c) (dataX m c) (bookB m c) 0 where
  books i a d := by
    have e : entryContents preI m c (Proc.devRef .tc main_v2_0) = m ((c : Thread nD τ).loc main_arg1) := by
      simp only [entryContents, afterL_cons, afterL_nil]
      after_results
      rfl
    rw [e]
    exact congrArg (argC m c) (congrArg (fun z => ix3 (n0 := 8) (n1 := 2048) (n2 := 64) z a d) (Fin.ext (Nat.mod_eq_of_lt i.isLt).symm))
  ctr := ctr_entry m c
  res b d j := by
    have e : entryContents preI m c (Proc.devRef .tc main_v2_2) = m ((c : Thread nD τ).loc main_arg0) := by
      simp only [entryContents, afterL_cons, afterL_nil]
      after_results
      rfl
    rw [e]
    rfl
  tot b d j := by
    have e : entryContents preI m c (Proc.devRef .tc main_v2_3)
        = broadcastInDim S16x64x4096 ![] bcast_S_S16x64x4096 (constant (F := Ideal) S_ .f32 0x00000000#32) := by
      simp only [entryContents, afterL_cons, afterL_nil]
      after_results
      rfl
    rw [e]
    pointwise
    rfl
  loss := by
    have e : entryContents preI m c (Proc.devRef .tc main_v2_4) = constant (F := Ideal) S_ .f32 0x00000000#32 := by
      simp only [entryContents, afterL_cons, afterL_nil]
      after_results
      rfl
    rw [e]
    funext z
    pointwise
    rfl
  codes i b j h := absurd h (Nat.not_lt_zero _)

variable {m c} (hX : ∀ j, ∃ r : ℝ, argX m c j = (r : EReal)) (hC : ∀ j, ∃ r : ℝ, argC m c j = (r : EReal))

include hX hC in
theorem inv_at : ∀ k, k ≤ 8 → Inv (atK m k c) (dataX m c) (bookB m c) k
  | 0, _ => inv_entry m c
  | k + 1, h => by
    rw [show atK m (k + 1) c = afterL bodyI (after condOps (atK m k c)) from rfl]
    exact (inv_at k (by omega)).step (by omega) (fun b j d => hX _) (fun i a d => hC _)

include hX hC in
theorem inv_final : Inv (after condOps (atK m 8 c)) (dataX m c) (bookB m c) 8 :=
  (inv_at hX hC 8 le_rfl).skip condOps_writes (by decide +kernel)

/-! ## The results -/

include hX hC in
theorem tot_final : finalContents condOps preI bodyI postI 8 m c (Proc.devRef .tc main_v2_3)
    = fun y : S16x64x4096.Idx => Rvq.tot (dataX m c (y 0) (y 2)) (bookB m c) 8 (y 1) := by
  simp only [finalContents, afterL_cons, afterL_nil]
  rw [show after hostOps0_1 (after condOps (atK m 8 c)) (Proc.devRef .tc main_v2_3) = after condOps (atK m 8 c) (Proc.devRef .tc main_v2_3) from
    after_of_writes_sub hostOps0_1 _ hostOps0_1_writes (by decide +kernel)]
  funext y
  idx_vars y
  exact (inv_final hX hC).tot _ _ _

include hX hC in
theorem codes_final : finalContents condOps preI bodyI postI 8 m c (Proc.devRef .tc main_v3)
    = fun y : S16x8x4096.Idx => BitVec.ofNat 32 (Rvq.code (dataX m c (y 0) (y 2)) (bookB m c) (y 1).val).val := by
  simp only [finalContents, afterL_cons, afterL_nil]
  have h := inv_final hX hC
  generalize after condOps (atK m 8 c) = V at h ⊢
  after_results
  funext y
  idx_vars y
  pointwise
  exact h.codes _ _ _ (Fin.isLt _)

include hX hC in
theorem loss_final : finalContents condOps preI bodyI postI 8 m c (Proc.devRef .tc main_v2_4)
    = fun _ => (∑ i ∈ Finset.range 8, Rvq.sqSum (dataX m c) (bookB m c) (i + 1)) * Ideal.ofBits .f32 0x34800000#32 := by
  simp only [finalContents, afterL_cons, afterL_nil]
  rw [show after hostOps0_1 (after condOps (atK m 8 c)) (Proc.devRef .tc main_v2_4) = after condOps (atK m 8 c) (Proc.devRef .tc main_v2_4) from
    after_of_writes_sub hostOps0_1 _ hostOps0_1_writes (by decide +kernel), (inv_final hX hC).loss,
    Rvq.lossAt_eq (X := dataX m c) (B := bookB m c) (fun b j d => hX _) (fun i a d => hC _)]

/-! ## The runs -/

variable (m) (ρ : Dev nD → PrngReg)

/-- The arguments end unchanged and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0 rfl).trans (arg0_final m c), (h c main_arg1 rfl).trans (arg1_final m c)⟩,
      sem_eq_zero_of_no_sems (by decide) r.2⟩) (run_fold m ρ)

end Cert.ReferenceIdeal.Loop
-- ==== Proof.Finite.lean ====
/-
  The condition on the arguments says that every entry is a real number.
-/
module

public import proofs.«01_k».proof.Pre_finite
public import proofs.«01_k».proof.Proof.Spec
public import Idealize.ShloMosaic.Lib.Pointwise

@[expose] public section

set_option maxRecDepth 16384

noncomputable section

open Idealize.ShloMosaic

namespace Cert.Pre_finite

theorem facts : Facts where
  bcast_S_S16x64x4096 := by decide
  bcast_S_S8x2048x64 := by decide

theorem ofBits_bot : Ideal.ofBits .f32 0xFF800000#32 = ⊥ := by
  simp [Ideal.ofBits, Ideal.ieee]

/-- Below infinity and above its negative: a real. -/
theorem real_of_between (x : EReal)
    (h : IntOp.andi (FloatOps.cmpf (F := Ideal) (φ := .f32) .olt x (Ideal.ofBits .f32 0x7F800000#32))
      (FloatOps.cmpf (F := Ideal) (φ := .f32) .ogt x (Ideal.ofBits .f32 0xFF800000#32)) = 1#1) : ∃ r : ℝ, x = (r : EReal) := by
  rw [Rvq.ofBits_top, ofBits_bot] at h
  induction x with
  | bot => exact absurd h (by simp [FloatOps.cmpf, Ideal.cmp, IntOp.andi])
  | top => exact absurd h (by simp [FloatOps.cmpf, Ideal.cmp, IntOp.andi])
  | coe r => exact ⟨r, rfl⟩

variable [Facts] (x : FVec Ideal S16x64x4096 .f32) (y : FVec Ideal S8x2048x64 .f32)

theorem real_left (h : (fn (F := Ideal) x y).1 = fun _ => 1#1) (j : S16x64x4096.Idx) : ∃ r : ℝ, x j = (r : EReal) :=
  real_of_between (x j) (congrFun h j)

theorem real_right (h : (fn (F := Ideal) x y).2 = fun _ => 1#1) (j : S8x2048x64.Idx) : ∃ r : ℝ, y j = (r : EReal) :=
  real_of_between (y j) (congrFun h j)

end Cert.Pre_finite

end
-- ==== Proof.Algebraic.lean ====
/-
  The kernel and the reference leave the same three results over the extended reals.
-/
module

public import proofs.«01_k».proof.Defs
public import proofs.«01_k».proof.Proof.KernelRun
public import proofs.«01_k».proof.Proof.RefResult
public import proofs.«01_k».proof.Proof.Finite
public import proofs.«01_k».proof.Proof.Gen.KernelIdeal
public import proofs.«01_k».proof.Proof.Gen.ReferenceIdeal
public import Idealize.ShloMosaic.Lib.Claim

@[expose] public section

set_option maxRecDepth 16384

noncomputable section

open Idealize.ShloMosaic Idealize.ShloMosaic.TcCoe Idealize.SL.Sem

namespace Cert.Proof

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  letI : Cert.Pre_finite.Facts := Cert.Pre_finite.facts
  have hX : ∀ (c : Dev Cert.KernelIdeal.nD) j, ∃ r : ℝ, Cert.KernelIdeal.Arrays.argX m c j = (r : EReal) := fun c j =>
    Cert.Pre_finite.real_left _ _ (hpre c).1 j
  have hC : ∀ c : Dev Cert.KernelIdeal.nD, Cert.KernelIdeal.Arrays.RealC m c := fun c j =>
    Cert.Pre_finite.real_right _ _ (hpre c).2 j
  have eX : ∀ c : Dev Cert.KernelIdeal.nD, Cert.ReferenceIdeal.Loop.argX m' c = Cert.KernelIdeal.Arrays.argX m c := fun c => (hagree c).1
  have eC : ∀ c : Dev Cert.KernelIdeal.nD, Cert.ReferenceIdeal.Loop.argC m' c = Cert.KernelIdeal.Arrays.argC m c := fun c => (hagree c).2
  have hX' : ∀ (c : Dev Cert.KernelIdeal.nD) j, ∃ r : ℝ, Cert.ReferenceIdeal.Loop.argX m' c j = (r : EReal) := fun c j => by rw [eX]; exact hX c j
  have hC' : ∀ (c : Dev Cert.KernelIdeal.nD) j, ∃ r : ℝ, Cert.ReferenceIdeal.Loop.argC m' c j = (r : EReal) := fun c j => by rw [eC]; exact hC c j
  have dX : ∀ c : Dev Cert.KernelIdeal.nD, Cert.ReferenceIdeal.Loop.dataX m' c = Cert.KernelIdeal.Arrays.colX m c := fun c => by
    unfold Cert.ReferenceIdeal.Loop.dataX Cert.KernelIdeal.Arrays.colX; rw [eX]
  have dB : ∀ c : Dev Cert.KernelIdeal.nD, Cert.ReferenceIdeal.Loop.bookB m' c = Cert.KernelIdeal.Arrays.bookC m c := fun c => by
    funext i k d
    unfold Cert.ReferenceIdeal.Loop.bookB Cert.KernelIdeal.Arrays.bookC; rw [eC]
  refine ⟨fun c => Cert.KernelIdeal.Arrays.resultTot m c, fun c => Cert.KernelIdeal.Arrays.resultCode m c,
    fun c => fun _ => Cert.KernelIdeal.Arrays.resultLoss m c, ?_, ?_⟩
  · refine (θ_run _ _ _).mono (fun r h c => ?_)
      (θ_run_and (Cert.KernelIdeal.Gen.run_main (F := Ideal) m g) (Cert.KernelIdeal.Gen.unchanged (F := Ideal) m g))
    exact ⟨((h.1 c).1 6).trans (Cert.KernelIdeal.Arrays.final_6 (hC c)), ((h.1 c).1 7).trans (Cert.KernelIdeal.Arrays.final_7 (hC c)),
      ((h.1 c).2 Cert.KernelIdeal.main_v10 (by decide)).trans (Cert.KernelIdeal.Arrays.loss_tail (hC c)), h.2 c⟩
  · refine (θ_run _ _ _).mono (fun r h c => ?_) (Cert.ReferenceIdeal.Loop.run_fold (F := Ideal) m' g')
    refine ⟨(h c Cert.ReferenceIdeal.main_v2_3 rfl).trans ((Cert.ReferenceIdeal.Loop.tot_final (hX' c) (hC' c)).trans ?_),
      (h c Cert.ReferenceIdeal.main_v3 rfl).trans ((Cert.ReferenceIdeal.Loop.codes_final (hX' c) (hC' c)).trans ?_),
      (h c Cert.ReferenceIdeal.main_v2_4 rfl).trans ((Cert.ReferenceIdeal.Loop.loss_final (hX' c) (hC' c)).trans ?_),
      (h c Cert.ReferenceIdeal.main_arg0 rfl).trans (Cert.ReferenceIdeal.Loop.arg0_final m' c),
      (h c Cert.ReferenceIdeal.main_arg1 rfl).trans (Cert.ReferenceIdeal.Loop.arg1_final m' c)⟩
    · rw [dX, dB]; rfl
    · rw [dX, dB]; rfl
    · rw [dX, dB, ← Cert.KernelIdeal.Arrays.resultLoss_eq]; rfl

end Cert.Proof

end
-- ==== Proof.lean ====
/-
  The certificate: the kernel and its idealization run and leave their arguments, so does the reference, the idealization is the
  kernel's own, and over the extended reals the two programs leave the same quantized sum, the same codes and the same loss.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Loop.frame m ρ,
    fun m ρ _ => Cert.ReferenceIdeal.Loop.frame m ρ,
    trivial,
    algebraic⟩

end Cert.Proof

end
